-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)) (v4 : (c : Dev Cert.KernelIdeal.nD) → Buf (Elt Ideal) ((c.tc : Thread Cert.KernelIdeal.nD Cert.KernelIdeal.τ).loc Cert.KernelIdeal.main_v3_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_v3_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_v76) = v1 c
          ∧ r.2.mem ((c.tc : Thread Cert.ReferenceIdeal.nD Cert.ReferenceIdeal.τ).loc Cert.ReferenceIdeal.main_v77) = v2 c
          ∧ r.2.mem ((c.tc : Thread Cert.ReferenceIdeal.nD Cert.ReferenceIdeal.τ).loc Cert.ReferenceIdeal.main_v29_0) = v3 c
          ∧ r.2.mem ((c.tc : Thread Cert.ReferenceIdeal.nD Cert.ReferenceIdeal.τ).loc Cert.ReferenceIdeal.main_v21) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x4096x5120 : Shape := ⟨3, ![1, 4096, 5120]⟩
abbrev S2112x5120 : Shape := ⟨2, ![2112, 5120]⟩
abbrev S17x40 : Shape := ⟨2, ![17, 40]⟩
abbrev S512 : Shape := ⟨1, ![512]⟩
abbrev S1536 : Shape := ⟨1, ![1536]⟩
abbrev S4096x5120 : Shape := ⟨2, ![4096, 5120]⟩
abbrev S1x1536 : Shape := ⟨2, ![1, 1536]⟩
abbrev S1x512 : Shape := ⟨2, ![1, 512]⟩
abbrev S4096x1536 : Shape := ⟨2, ![4096, 1536]⟩
abbrev S4096x512 : Shape := ⟨2, ![4096, 512]⟩
abbrev S4096x64 : Shape := ⟨2, ![4096, 64]⟩
abbrev S4096x40 : Shape := ⟨2, ![4096, 40]⟩
abbrev S256x5120 : Shape := ⟨2, ![256, 5120]⟩
abbrev S256x1536 : Shape := ⟨2, ![256, 1536]⟩
abbrev S256x512 : Shape := ⟨2, ![256, 512]⟩
abbrev S256x64 : Shape := ⟨2, ![256, 64]⟩
abbrev S256x40 : Shape := ⟨2, ![256, 40]⟩
abbrev S256x2048 : Shape := ⟨2, ![256, 2048]⟩
abbrev S1x1 : Shape := ⟨2, ![1, 1]⟩
abbrev S128x128 : Shape := ⟨2, ![128, 128]⟩
abbrev S64x128 : Shape := ⟨2, ![64, 128]⟩
abbrev S256x128 : Shape := ⟨2, ![256, 128]⟩
abbrev S256 : Shape := ⟨1, ![256]⟩
abbrev S256x1 : Shape := ⟨2, ![256, 1]⟩
abbrev S512x5120 : Shape := ⟨2, ![512, 5120]⟩
abbrev S64x5120 : Shape := ⟨2, ![64, 5120]⟩

abbrev nBuf : Space → Nat
  | .hbm => 13
  | .vmem => 18
  | .smem => 1
  | _ => 0

abbrev bufTy : (tb : Table) → Fin (tcTables nBuf tb) → BufTy
  | .hbm, ⟨0, _⟩ => ⟨S1x4096x5120, .bf16⟩
  | .hbm, ⟨1, _⟩ => ⟨S2112x5120, .fp8e4m3⟩
  | .hbm, ⟨2, _⟩ => ⟨S17x40, .f32⟩
  | .hbm, ⟨3, _⟩ => ⟨S512, .bf16⟩
  | .hbm, ⟨4, _⟩ => ⟨S1536, .bf16⟩
  | .hbm, ⟨5, _⟩ => ⟨S4096x5120, .bf16⟩
  | .hbm, ⟨6, _⟩ => ⟨S1x1536, .bf16⟩
  | .hbm, ⟨7, _⟩ => ⟨S1x512, .bf16⟩
  | .hbm, ⟨8, _⟩ => ⟨S4096x1536, .bf16⟩
  | .hbm, ⟨9, _⟩ => ⟨S4096x512, .bf16⟩
  | .hbm, ⟨10, _⟩ => ⟨S4096x64, .bf16⟩
  | .hbm, ⟨11, _⟩ => ⟨S4096x5120, .fp8e4m3⟩
  | .hbm, ⟨12, _⟩ => ⟨S4096x40, .f32⟩
  | .local _ .vmem, ⟨0, _⟩ => ⟨S256x5120, .bf16⟩
  | .local _ .vmem, ⟨1, _⟩ => ⟨S256x5120, .bf16⟩
  | .local _ .vmem, ⟨2, _⟩ => ⟨S2112x5120, .fp8e4m3⟩
  | .local _ .vmem, ⟨3, _⟩ => ⟨S1x1536, .bf16⟩
  | .local _ .vmem, ⟨4, _⟩ => ⟨S1x512, .bf16⟩
  | .local _ .vmem, ⟨5, _⟩ => ⟨S256x1536, .bf16⟩
  | .local _ .vmem, ⟨6, _⟩ => ⟨S256x1536, .bf16⟩
  | .local _ .vmem, ⟨7, _⟩ => ⟨S256x512, .bf16⟩
  | .local _ .vmem, ⟨8, _⟩ => ⟨S256x512, .bf16⟩
  | .local _ .vmem, ⟨9, _⟩ => ⟨S256x64, .bf16⟩
  | .local _ .vmem, ⟨10, _⟩ => ⟨S256x64, .bf16⟩
  | .local _ .vmem, ⟨11, _⟩ => ⟨S256x5120, .fp8e4m3⟩
  | .local _ .vmem, ⟨12, _⟩ => ⟨S256x5120, .fp8e4m3⟩
  | .local _ .vmem, ⟨13, _⟩ => ⟨S256x40, .f32⟩
  | .local _ .vmem, ⟨14, _⟩ => ⟨S256x40, .f32⟩
  | .local _ .vmem, ⟨15, _⟩ => ⟨S2112x5120, .bf16⟩
  | .local _ .vmem, ⟨16, _⟩ => ⟨S256x5120, .bf16⟩
  | .local _ .vmem, ⟨17, _⟩ => ⟨S256x2048, .f32⟩
  | .local _ .smem, ⟨0, _⟩ => ⟨S17x40, .f32⟩
  | _, _ => ⟨S1x4096x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v3_4 : Ref sig .tc := ⟨.hbm, 12, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_1257 : BitVec 32 := 0#32
  let c40_i32 : BitVec 32 := 40#32
  let v3392 : BitVec 32 := Scalar.addi c0_i32_1257 c40_i32
  let c1_i32_1258 : BitVec 32 := 1#32
  ⟨c0_i32_1257, v3392, c1_i32_1258⟩
def k0_mult1 (k0_t1 : Fin k0_t1_loop.trips) : BitVec 32 :=
  let c0_i32_1257 : BitVec 32 := 0#32
  let c1_i32_1258 : BitVec 32 := 1#32
  let arg14 : BitVec 32 := Scf.iv c0_i32_1257 c1_i32_1258 k0_t1
  let c128_i32 : BitVec 32 := 128#32
  let v3409 : BitVec 32 := Scalar.muli arg14 c128_i32
  v3409
def k0_off1 (k0_t1 : Fin k0_t1_loop.trips) : Fin 2 → Nat :=
  let c0_1324 : Index := 0#32
  let c0_i32_1257 : BitVec 32 := 0#32
  let c1_i32_1258 : BitVec 32 := 1#32
  let arg14 : BitVec 32 := Scf.iv c0_i32_1257 c1_i32_1258 k0_t1
  let v3411 : Index := Scalar.indexCast arg14
  ![0, v3411.toNat]
def k0_off2 (k0_t1 : Fin k0_t1_loop.trips) : Fin 2 → Nat :=
  let c0_1325 : Index := 0#32
  let c0_i32_1257 : BitVec 32 := 0#32
  let c1_i32_1258 : BitVec 32 := 1#32
  let arg14 : BitVec 32 := Scf.iv c0_i32_1257 c1_i32_1258 k0_t1
  let c128_i32 : BitVec 32 := 128#32
  let v3409 : BitVec 32 := Scalar.muli arg14 c128_i32
  let v3410 : BitVec 32 := v3409
  let v3414 : Index := Scalar.indexCast v3410
  ![0, v3414.toNat]
@[reducible] def k0_t2_loop : Scf.Loop 32 :=
  let c0_i32_1260 : BitVec 32 := 0#32
  let c40_i32_1261 : BitVec 32 := 40#32
  let v3393 : BitVec 32 := Scalar.addi c0_i32_1260 c40_i32_1261
  let c1_i32_1262 : BitVec 32 := 1#32
  ⟨c0_i32_1260, v3393, c1_i32_1262⟩
def k0_mult2 (k0_t2 : Fin k0_t2_loop.trips) : BitVec 32 :=
  let c0_i32_1260 : BitVec 32 := 0#32
  let c1_i32_1262 : BitVec 32 := 1#32
  let arg14 : BitVec 32 := Scf.iv c0_i32_1260 c1_i32_1262 k0_t2
  let c128_i32 : BitVec 32 := 128#32
  let v3409 : BitVec 32 := Scalar.muli arg14 c128_i32
  v3409
def k0_off3 (k0_t2 : Fin k0_t2_loop.trips) : Fin 2 → Nat :=
  let c1 : Index := 1#32
  let c0_i32_1260 : BitVec 32 := 0#32
  let c1_i32_1262 : BitVec 32 := 1#32
  let arg14 : BitVec 32 := Scf.iv c0_i32_1260 c1_i32_1262 k0_t2
  let v3411 : Index := Scalar.indexCast arg14
  ![1, v3411.toNat]
def k0_off4 (k0_t2 : Fin k0_t2_loop.trips) : Fin 2 → Nat :=
  let c128_1324 : Index := 128#32
  let c0_i32_1260 : BitVec 32 := 0#32
  let c1_i32_1262 : BitVec 32 := 1#32
  let arg14 : BitVec 32 := Scf.iv c0_i32_1260 c1_i32_1262 k0_t2
  let c128_i32 : BitVec 32 := 128#32
  let v3409 : BitVec 32 := Scalar.muli arg14 c128_i32
  let v3410 : BitVec 32 := v3409
  let v3414 : Index := Scalar.indexCast v3410
  ![128, v3414.toNat]
@[reducible] def k0_t3_loop : Scf.Loop 32 :=
  let c0_i32_1264 : BitVec 32 := 0#32
  let c40_i32_1265 : BitVec 32 := 40#32
  let v3394 : BitVec 32 := Scalar.addi c0_i32_1264 c40_i32_1265
  let c1_i32_1266 : BitVec 32 := 1#32
  ⟨c0_i32_1264, v3394, c1_i32_1266⟩
def k0_mult3 (k0_t3 : Fin k0_t3_loop.trips) : BitVec 32 :=
  let c0_i32_1264 : BitVec 32 := 0#32
  let c1_i32_1266 : BitVec 32 := 1#32
  let arg14 : BitVec 32 := Scf.iv c0_i32_1264 c1_i32_1266 k0_t3
  let c128_i32 : BitVec 32 := 128#32
  let v3409 : BitVec 32 := Scalar.muli arg14 c128_i32
  v3409
def k0_off5 (k0_t3 : Fin k0_t3_loop.trips) : Fin 2 → Nat :=
  let c2 : Index := 2#32
  let c0_i32_1264 : BitVec 32 := 0#32
  let c1_i32_1266 : BitVec 32 := 1#32
  let arg14 : BitVec 32 := Scf.iv c0_i32_1264 c1_i32_1266 k0_t3
  let v3411 : Index := Scalar.indexCast arg14
  ![2, v3411.toNat]
def k0_off6 (k0_t3 : Fin k0_t3_loop.trips) : Fin 2 → Nat :=
  let c256_1324 : Index := 256#32
  let c0_i32_1264 : BitVec 32 := 0#32
  let c1_i32_1266 : BitVec 32 := 1#32
  let arg14 : BitVec 32 := Scf.iv c0_i32_1264 c1_i32_1266 k0_t3
  let c128_i32 : BitVec 32 := 128#32
  let v3409 : BitVec 32 := Scalar.muli arg14 c128_i32
  let v3410 : BitVec 32 := v3409
  let v3414 : Index := Scalar.indexCast v3410
  ![256, v3414.toNat]
@[reducible] def k0_t4_loop : Scf.Loop 32 :=
  let c0_i32_1268 : BitVec 32 := 0#32
  let c40_i32_1269 : BitVec 32 := 40#32
  let v3395 : BitVec 32 := Scalar.addi c0_i32_1268 c40_i32_1269
  let c1_i32_1270 : BitVec 32 := 1#32
  ⟨c0_i32_1268, v3395, c1_i32_1270⟩
def k0_mult4 (k0_t4 : Fin k0_t4_loop.trips) : BitVec 32 :=
  let c0_i32_1268 : BitVec 32 := 0#32
  let c1_i32_1270 : BitVec 32 := 1#32
  let arg14 : BitVec 32 := Scf.iv c0_i32_1268 c1_i32_1270 k0_t4
  let c128_i32 : BitVec 32 := 128#32
  let v3409 : BitVec 32 := Scalar.muli arg14 c128_i32
  v3409
def k0_off7 (k0_t4 : Fin k0_t4_loop.trips) : Fin 2 → Nat :=
  let c3 : Index := 3#32
  let c0_i32_1268 : BitVec 32 := 0#32
  let c1_i32_1270 : BitVec 32 := 1#32
  let arg14 : BitVec 32 := Scf.iv c0_i32_1268 c1_i32_1270 k0_t4
  let v3411 : Index := Scalar.indexCast arg14
  ![3, v3411.toNat]
def k0_off8 (k0_t4 : Fin k0_t4_loop.trips) : Fin 2 → Nat :=
  let c384_1324 : Index := 384#32
  let c0_i32_1268 : BitVec 32 := 0#32
  let c1_i32_1270 : BitVec 32 := 1#32
  let arg14 : BitVec 32 := Scf.iv c0_i32_1268 c1_i32_1270 k0_t4
  let c128_i32 : BitVec 32 := 128#32
  let v3409 : BitVec 32 := Scalar.muli arg14 c128_i32
  let v3410 : BitVec 32 := v3409
  let v3414 : Index := Scalar.indexCast v3410
  ![384, v3414.toNat]
@[reducible] def k0_t5_loop : Scf.Loop 32 :=
  let c0_i32_1272 : BitVec 32 := 0#32
  let c40_i32_1273 : BitVec 32 := 40#32
  let v3396 : BitVec 32 := Scalar.addi c0_i32_1272 c40_i32_1273
  let c1_i32_1274 : BitVec 32 := 1#32
  ⟨c0_i32_1272, v3396, c1_i32_1274⟩
def k0_mult5 (k0_t5 : Fin k0_t5_loop.trips) : BitVec 32 :=
  let c0_i32_1272 : BitVec 32 := 0#32
  let c1_i32_1274 : BitVec 32 := 1#32
  let arg14 : BitVec 32 := Scf.iv c0_i32_1272 c1_i32_1274 k0_t5
  let c128_i32 : BitVec 32 := 128#32
  let v3409 : BitVec 32 := Scalar.muli arg14 c128_i32
  v3409
def k0_off9 (k0_t5 : Fin k0_t5_loop.trips) : Fin 2 → Nat :=
  let c4 : Index := 4#32
  let c0_i32_1272 : BitVec 32 := 0#32
  let c1_i32_1274 : BitVec 32 := 1#32
  let arg14 : BitVec 32 := Scf.iv c0_i32_1272 c1_i32_1274 k0_t5
  let v3411 : Index := Scalar.indexCast arg14
  ![4, v3411.toNat]
def k0_off10 (k0_t5 : Fin k0_t5_loop.trips) : Fin 2 → Nat :=
  let c512_1324 : Index := 512#32
  let c0_i32_1272 : BitVec 32 := 0#32
  let c1_i32_1274 : BitVec 32 := 1#32
  let arg14 : BitVec 32 := Scf.iv c0_i32_1272 c1_i32_1274 k0_t5
  let c128_i32 : BitVec 32 := 128#32
  let v3409 : BitVec 32 := Scalar.muli arg14 c128_i32
  let v3410 : BitVec 32 := v3409
  let v3414 : Index := Scalar.indexCast v3410
  ![512, v3414.toNat]
@[reducible] def k0_t6_loop : Scf.Loop 32 :=
  let c0_i32_1276 : BitVec 32 := 0#32
  let c40_i32_1277 : BitVec 32 := 40#32
  let v3397 : BitVec 32 := Scalar.addi c0_i32_1276 c40_i32_1277
  let c1_i32_1278 : BitVec 32 := 1#32
  ⟨c0_i32_1276, v3397, c1_i32_1278⟩
def k0_mult6 (k0_t6 : Fin k0_t6_loop.trips) : BitVec 32 :=
  let c0_i32_1276 : BitVec 32 := 0#32
  let c1_i32_1278 : BitVec 32 := 1#32
  let arg14 : BitVec 32 := Scf.iv c0_i32_1276 c1_i32_1278 k0_t6
  let c128_i32 : BitVec 32 := 128#32
  let v3409 : BitVec 32 := Scalar.muli arg14 c128_i32
  v3409
def k0_off11 (k0_t6 : Fin k0_t6_loop.trips) : Fin 2 → Nat :=
  let c5 : Index := 5#32
  let c0_i32_1276 : BitVec 32 := 0#32
  let c1_i32_1278 : BitVec 32 := 1#32
  let arg14 : BitVec 32 := Scf.iv c0_i32_1276 c1_i32_1278 k0_t6
  let v3411 : Index := Scalar.indexCast arg14
  ![5, v3411.toNat]
def k0_off12 (k0_t6 : Fin k0_t6_loop.trips) : Fin 2 → Nat :=
  let c640_1324 : Index := 640#32
  let c0_i32_1276 : BitVec 32 := 0#32
  let c1_i32_1278 : BitVec 32 := 1#32
  let arg14 : BitVec 32 := Scf.iv c0_i32_1276 c1_i32_1278 k0_t6
  let c128_i32 : BitVec 32 := 128#32
  let v3409 : BitVec 32 := Scalar.muli arg14 c128_i32
  let v3410 : BitVec 32 := v3409
  let v3414 : Index := Scalar.indexCast v3410
  ![640, v3414.toNat]
@[reducible] def k0_t7_loop : Scf.Loop 32 :=
  let c0_i32_1280 : BitVec 32 := 0#32
  let c40_i32_1281 : BitVec 32 := 40#32
  let v3398 : BitVec 32 := Scalar.addi c0_i32_1280 c40_i32_1281
  let c1_i32_1282 : BitVec 32 := 1#32
  ⟨c0_i32_1280, v3398, c1_i32_1282⟩
def k0_mult7 (k0_t7 : Fin k0_t7_loop.trips) : BitVec 32 :=
  let c0_i32_1280 : BitVec 32 := 0#32
  let c1_i32_1282 : BitVec 32 := 1#32
  let arg14 : BitVec 32 := Scf.iv c0_i32_1280 c1_i32_1282 k0_t7
  let c128_i32 : BitVec 32 := 128#32
  let v3409 : BitVec 32 := Scalar.muli arg14 c128_i32
  v3409
def k0_off13 (k0_t7 : Fin k0_t7_loop.trips) : Fin 2 → Nat :=
  let c6 : Index := 6#32
  let c0_i32_1280 : BitVec 32 := 0#32
  let c1_i32_1282 : BitVec 32 := 1#32
  let arg14 : BitVec 32 := Scf.iv c0_i32_1280 c1_i32_1282 k0_t7
  let v3411 : Index := Scalar.indexCast arg14
  ![6, v3411.toNat]
def k0_off14 (k0_t7 : Fin k0_t7_loop.trips) : Fin 2 → Nat :=
  let c768_1324 : Index := 768#32
  let c0_i32_1280 : BitVec 32 := 0#32
  let c1_i32_1282 : BitVec 32 := 1#32
  let arg14 : BitVec 32 := Scf.iv c0_i32_1280 c1_i32_1282 k0_t7
  let c128_i32 : BitVec 32 := 128#32
  let v3409 : BitVec 32 := Scalar.muli arg14 c128_i32
  let v3410 : BitVec 32 := v3409
  let v3414 : Index := Scalar.indexCast v3410
  ![768, v3414.toNat]
@[reducible] def k0_t8_loop : Scf.Loop 32 :=
  let c0_i32_1284 : BitVec 32 := 0#32
  let c40_i32_1285 : BitVec 32 := 40#32
  let v3399 : BitVec 32 := Scalar.addi c0_i32_1284 c40_i32_1285
  let c1_i32_1286 : BitVec 32 := 1#32
  ⟨c0_i32_1284, v3399, c1_i32_1286⟩
def k0_mult8 (k0_t8 : Fin k0_t8_loop.trips) : BitVec 32 :=
  let c0_i32_1284 : BitVec 32 := 0#32
  let c1_i32_1286 : BitVec 32 := 1#32
  let arg14 : BitVec 32 := Scf.iv c0_i32_1284 c1_i32_1286 k0_t8
  let c128_i32 : BitVec 32 := 128#32
  let v3409 : BitVec 32 := Scalar.muli arg14 c128_i32
  v3409
def k0_off15 (k0_t8 : Fin k0_t8_loop.trips) : Fin 2 → Nat :=
  let c7 : Index := 7#32
  let c0_i32_1284 : BitVec 32 := 0#32
  let c1_i32_1286 : BitVec 32 := 1#32
  let arg14 : BitVec 32 := Scf.iv c0_i32_1284 c1_i32_1286 k0_t8
  let v3411 : Index := Scalar.indexCast arg14
  ![7, v3411.toNat]
def k0_off16 (k0_t8 : Fin k0_t8_loop.trips) : Fin 2 → Nat :=
  let c896_1324 : Index := 896#32
  let c0_i32_1284 : BitVec 32 := 0#32
  let c1_i32_1286 : BitVec 32 := 1#32
  let arg14 : BitVec 32 := Scf.iv c0_i32_1284 c1_i32_1286 k0_t8
  let c128_i32 : BitVec 32 := 128#32
  let v3409 : BitVec 32 := Scalar.muli arg14 c128_i32
  let v3410 : BitVec 32 := v3409
  let v3414 : Index := Scalar.indexCast v3410
  ![896, v3414.toNat]
@[reducible] def k0_t9_loop : Scf.Loop 32 :=
  let c0_i32_1288 : BitVec 32 := 0#32
  let c40_i32_1289 : BitVec 32 := 40#32
  let v3400 : BitVec 32 := Scalar.addi c0_i32_1288 c40_i32_1289
  let c1_i32_1290 : BitVec 32 := 1#32
  ⟨c0_i32_1288, v3400, c1_i32_1290⟩
def k0_mult9 (k0_t9 : Fin k0_t9_loop.trips) : BitVec 32 :=
  let c0_i32_1288 : BitVec 32 := 0#32
  let c1_i32_1290 : BitVec 32 := 1#32
  let arg14 : BitVec 32 := Scf.iv c0_i32_1288 c1_i32_1290 k0_t9
  let c128_i32 : BitVec 32 := 128#32
  let v3409 : BitVec 32 := Scalar.muli arg14 c128_i32
  v3409
def k0_off17 (k0_t9 : Fin k0_t9_loop.trips) : Fin 2 → Nat :=
  let c8 : Index := 8#32
  let c0_i32_1288 : BitVec 32 := 0#32
  let c1_i32_1290 : BitVec 32 := 1#32
  let arg14 : BitVec 32 := Scf.iv c0_i32_1288 c1_i32_1290 k0_t9
  let v3411 : Index := Scalar.indexCast arg14
  ![8, v3411.toNat]
def k0_off18 (k0_t9 : Fin k0_t9_loop.trips) : Fin 2 → Nat :=
  let c1024_1324 : Index := 1024#32
  let c0_i32_1288 : BitVec 32 := 0#32
  let c1_i32_1290 : BitVec 32 := 1#32
  let arg14 : BitVec 32 := Scf.iv c0_i32_1288 c1_i32_1290 k0_t9
  let c128_i32 : BitVec 32 := 128#32
  let v3409 : BitVec 32 := Scalar.muli arg14 c128_i32
  let v3410 : BitVec 32 := v3409
  let v3414 : Index := Scalar.indexCast v3410
  ![1024, v3414.toNat]
@[reducible] def k0_t10_loop : Scf.Loop 32 :=
  let c0_i32_1292 : BitVec 32 := 0#32
  let c40_i32_1293 : BitVec 32 := 40#32
  let v3401 : BitVec 32 := Scalar.addi c0_i32_1292 c40_i32_1293
  let c1_i32_1294 : BitVec 32 := 1#32
  ⟨c0_i32_1292, v3401, c1_i32_1294⟩
def k0_mult10 (k0_t10 : Fin k0_t10_loop.trips) : BitVec 32 :=
  let c0_i32_1292 : BitVec 32 := 0#32
  let c1_i32_1294 : BitVec 32 := 1#32
  let arg14 : BitVec 32 := Scf.iv c0_i32_1292 c1_i32_1294 k0_t10
  let c128_i32 : BitVec 32 := 128#32
  let v3409 : BitVec 32 := Scalar.muli arg14 c128_i32
  v3409
def k0_off19 (k0_t10 : Fin k0_t10_loop.trips) : Fin 2 → Nat :=
  let c9 : Index := 9#32
  let c0_i32_1292 : BitVec 32 := 0#32
  let c1_i32_1294 : BitVec 32 := 1#32
  let arg14 : BitVec 32 := Scf.iv c0_i32_1292 c1_i32_1294 k0_t10
  let v3411 : Index := Scalar.indexCast arg14
  ![9, v3411.toNat]
def k0_off20 (k0_t10 : Fin k0_t10_loop.trips) : Fin 2 → Nat :=
  let c1152_1324 : Index := 1152#32
  let c0_i32_1292 : BitVec 32 := 0#32
  let c1_i32_1294 : BitVec 32 := 1#32
  let arg14 : BitVec 32 := Scf.iv c0_i32_1292 c1_i32_1294 k0_t10
  let c128_i32 : BitVec 32 := 128#32
  let v3409 : BitVec 32 := Scalar.muli arg14 c128_i32
  let v3410 : BitVec 32 := v3409
  let v3414 : Index := Scalar.indexCast v3410
  ![1152, v3414.toNat]
@[reducible] def k0_t11_loop : Scf.Loop 32 :=
  let c0_i32_1296 : BitVec 32 := 0#32
  let c40_i32_1297 : BitVec 32 := 40#32
  let v3402 : BitVec 32 := Scalar.addi c0_i32_1296 c40_i32_1297
  let c1_i32_1298 : BitVec 32 := 1#32
  ⟨c0_i32_1296, v3402, c1_i32_1298⟩
def k0_mult11 (k0_t11 : Fin k0_t11_loop.trips) : BitVec 32 :=
  let c0_i32_1296 : BitVec 32 := 0#32
  let c1_i32_1298 : BitVec 32 := 1#32
  let arg14 : BitVec 32 := Scf.iv c0_i32_1296 c1_i32_1298 k0_t11
  let c128_i32 : BitVec 32 := 128#32
  let v3409 : BitVec 32 := Scalar.muli arg14 c128_i32
  v3409
def k0_off21 (k0_t11 : Fin k0_t11_loop.trips) : Fin 2 → Nat :=
  let c10 : Index := 10#32
  let c0_i32_1296 : BitVec 32 := 0#32
  let c1_i32_1298 : BitVec 32 := 1#32
  let arg14 : BitVec 32 := Scf.iv c0_i32_1296 c1_i32_1298 k0_t11
  let v3411 : Index := Scalar.indexCast arg14
  ![10, v3411.toNat]
def k0_off22 (k0_t11 : Fin k0_t11_loop.trips) : Fin 2 → Nat :=
  let c1280_1324 : Index := 1280#32
  let c0_i32_1296 : BitVec 32 := 0#32
  let c1_i32_1298 : BitVec 32 := 1#32
  let arg14 : BitVec 32 := Scf.iv c0_i32_1296 c1_i32_1298 k0_t11
  let c128_i32 : BitVec 32 := 128#32
  let v3409 : BitVec 32 := Scalar.muli arg14 c128_i32
  let v3410 : BitVec 32 := v3409
  let v3414 : Index := Scalar.indexCast v3410
  ![1280, v3414.toNat]
@[reducible] def k0_t12_loop : Scf.Loop 32 :=
  let c0_i32_1300 : BitVec 32 := 0#32
  let c40_i32_1301 : BitVec 32 := 40#32
  let v3403 : BitVec 32 := Scalar.addi c0_i32_1300 c40_i32_1301
  let c1_i32_1302 : BitVec 32 := 1#32
  ⟨c0_i32_1300, v3403, c1_i32_1302⟩
def k0_mult12 (k0_t12 : Fin k0_t12_loop.trips) : BitVec 32 :=
  let c0_i32_1300 : BitVec 32 := 0#32
  let c1_i32_1302 : BitVec 32 := 1#32
  let arg14 : BitVec 32 := Scf.iv c0_i32_1300 c1_i32_1302 k0_t12
  let c128_i32 : BitVec 32 := 128#32
  let v3409 : BitVec 32 := Scalar.muli arg14 c128_i32
  v3409
def k0_off23 (k0_t12 : Fin k0_t12_loop.trips) : Fin 2 → Nat :=
  let c11 : Index := 11#32
  let c0_i32_1300 : BitVec 32 := 0#32
  let c1_i32_1302 : BitVec 32 := 1#32
  let arg14 : BitVec 32 := Scf.iv c0_i32_1300 c1_i32_1302 k0_t12
  let v3411 : Index := Scalar.indexCast arg14
  ![11, v3411.toNat]
def k0_off24 (k0_t12 : Fin k0_t12_loop.trips) : Fin 2 → Nat :=
  let c1408_1324 : Index := 1408#32
  let c0_i32_1300 : BitVec 32 := 0#32
  let c1_i32_1302 : BitVec 32 := 1#32
  let arg14 : BitVec 32 := Scf.iv c0_i32_1300 c1_i32_1302 k0_t12
  let c128_i32 : BitVec 32 := 128#32
  let v3409 : BitVec 32 := Scalar.muli arg14 c128_i32
  let v3410 : BitVec 32 := v3409
  let v3414 : Index := Scalar.indexCast v3410
  ![1408, v3414.toNat]
@[reducible] def k0_t13_loop : Scf.Loop 32 :=
  let c0_i32_1304 : BitVec 32 := 0#32
  let c40_i32_1305 : BitVec 32 := 40#32
  let v3404 : BitVec 32 := Scalar.addi c0_i32_1304 c40_i32_1305
  let c1_i32_1306 : BitVec 32 := 1#32
  ⟨c0_i32_1304, v3404, c1_i32_1306⟩
def k0_mult13 (k0_t13 : Fin k0_t13_loop.trips) : BitVec 32 :=
  let c0_i32_1304 : BitVec 32 := 0#32
  let c1_i32_1306 : BitVec 32 := 1#32
  let arg14 : BitVec 32 := Scf.iv c0_i32_1304 c1_i32_1306 k0_t13
  let c128_i32 : BitVec 32 := 128#32
  let v3409 : BitVec 32 := Scalar.muli arg14 c128_i32
  v3409
def k0_off25 (k0_t13 : Fin k0_t13_loop.trips) : Fin 2 → Nat :=
  let c12 : Index := 12#32
  let c0_i32_1304 : BitVec 32 := 0#32
  let c1_i32_1306 : BitVec 32 := 1#32
  let arg14 : BitVec 32 := Scf.iv c0_i32_1304 c1_i32_1306 k0_t13
  let v3411 : Index := Scalar.indexCast arg14
  ![12, v3411.toNat]
def k0_off26 (k0_t13 : Fin k0_t13_loop.trips) : Fin 2 → Nat :=
  let c1536_1324 : Index := 1536#32
  let c0_i32_1304 : BitVec 32 := 0#32
  let c1_i32_1306 : BitVec 32 := 1#32
  let arg14 : BitVec 32 := Scf.iv c0_i32_1304 c1_i32_1306 k0_t13
  let c128_i32 : BitVec 32 := 128#32
  let v3409 : BitVec 32 := Scalar.muli arg14 c128_i32
  let v3410 : BitVec 32 := v3409
  let v3414 : Index := Scalar.indexCast v3410
  ![1536, v3414.toNat]
@[reducible] def k0_t14_loop : Scf.Loop 32 :=
  let c0_i32_1308 : BitVec 32 := 0#32
  let c40_i32_1309 : BitVec 32 := 40#32
  let v3405 : BitVec 32 := Scalar.addi c0_i32_1308 c40_i32_1309
  let c1_i32_1310 : BitVec 32 := 1#32
  ⟨c0_i32_1308, v3405, c1_i32_1310⟩
def k0_mult14 (k0_t14 : Fin k0_t14_loop.trips) : BitVec 32 :=
  let c0_i32_1308 : BitVec 32 := 0#32
  let c1_i32_1310 : BitVec 32 := 1#32
  let arg14 : BitVec 32 := Scf.iv c0_i32_1308 c1_i32_1310 k0_t14
  let c128_i32 : BitVec 32 := 128#32
  let v3409 : BitVec 32 := Scalar.muli arg14 c128_i32
  v3409
def k0_off27 (k0_t14 : Fin k0_t14_loop.trips) : Fin 2 → Nat :=
  let c13 : Index := 13#32
  let c0_i32_1308 : BitVec 32 := 0#32
  let c1_i32_1310 : BitVec 32 := 1#32
  let arg14 : BitVec 32 := Scf.iv c0_i32_1308 c1_i32_1310 k0_t14
  let v3411 : Index := Scalar.indexCast arg14
  ![13, v3411.toNat]
def k0_off28 (k0_t14 : Fin k0_t14_loop.trips) : Fin 2 → Nat :=
  let c1664_1324 : Index := 1664#32
  let c0_i32_1308 : BitVec 32 := 0#32
  let c1_i32_1310 : BitVec 32 := 1#32
  let arg14 : BitVec 32 := Scf.iv c0_i32_1308 c1_i32_1310 k0_t14
  let c128_i32 : BitVec 32 := 128#32
  let v3409 : BitVec 32 := Scalar.muli arg14 c128_i32
  let v3410 : BitVec 32 := v3409
  let v3414 : Index := Scalar.indexCast v3410
  ![1664, v3414.toNat]
@[reducible] def k0_t15_loop : Scf.Loop 32 :=
  let c0_i32_1312 : BitVec 32 := 0#32
  let c40_i32_1313 : BitVec 32 := 40#32
  let v3406 : BitVec 32 := Scalar.addi c0_i32_1312 c40_i32_1313
  let c1_i32_1314 : BitVec 32 := 1#32
  ⟨c0_i32_1312, v3406, c1_i32_1314⟩
def k0_mult15 (k0_t15 : Fin k0_t15_loop.trips) : BitVec 32 :=
  let c0_i32_1312 : BitVec 32 := 0#32
  let c1_i32_1314 : BitVec 32 := 1#32
  let arg14 : BitVec 32 := Scf.iv c0_i32_1312 c1_i32_1314 k0_t15
  let c128_i32 : BitVec 32 := 128#32
  let v3409 : BitVec 32 := Scalar.muli arg14 c128_i32
  v3409
def k0_off29 (k0_t15 : Fin k0_t15_loop.trips) : Fin 2 → Nat :=
  let c14 : Index := 14#32
  let c0_i32_1312 : BitVec 32 := 0#32
  let c1_i32_1314 : BitVec 32 := 1#32
  let arg14 : BitVec 32 := Scf.iv c0_i32_1312 c1_i32_1314 k0_t15
  let v3411 : Index := Scalar.indexCast arg14
  ![14, v3411.toNat]
def k0_off30 (k0_t15 : Fin k0_t15_loop.trips) : Fin 2 → Nat :=
  let c1792_1324 : Index := 1792#32
  let c0_i32_1312 : BitVec 32 := 0#32
  let c1_i32_1314 : BitVec 32 := 1#32
  let arg14 : BitVec 32 := Scf.iv c0_i32_1312 c1_i32_1314 k0_t15
  let c128_i32 : BitVec 32 := 128#32
  let v3409 : BitVec 32 := Scalar.muli arg14 c128_i32
  let v3410 : BitVec 32 := v3409
  let v3414 : Index := Scalar.indexCast v3410
  ![1792, v3414.toNat]
@[reducible] def k0_t16_loop : Scf.Loop 32 :=
  let c0_i32_1316 : BitVec 32 := 0#32
  let c40_i32_1317 : BitVec 32 := 40#32
  let v3407 : BitVec 32 := Scalar.addi c0_i32_1316 c40_i32_1317
  let c1_i32_1318 : BitVec 32 := 1#32
  ⟨c0_i32_1316, v3407, c1_i32_1318⟩
def k0_mult16 (k0_t16 : Fin k0_t16_loop.trips) : BitVec 32 :=
  let c0_i32_1316 : BitVec 32 := 0#32
  let c1_i32_1318 : BitVec 32 := 1#32
  let arg14 : BitVec 32 := Scf.iv c0_i32_1316 c1_i32_1318 k0_t16
  let c128_i32 : BitVec 32 := 128#32
  let v3409 : BitVec 32 := Scalar.muli arg14 c128_i32
  v3409
def k0_off31 (k0_t16 : Fin k0_t16_loop.trips) : Fin 2 → Nat :=
  let c15 : Index := 15#32
  let c0_i32_1316 : BitVec 32 := 0#32
  let c1_i32_1318 : BitVec 32 := 1#32
  let arg14 : BitVec 32 := Scf.iv c0_i32_1316 c1_i32_1318 k0_t16
  let v3411 : Index := Scalar.indexCast arg14
  ![15, v3411.toNat]
def k0_off32 (k0_t16 : Fin k0_t16_loop.trips) : Fin 2 → Nat :=
  let c1920_1324 : Index := 1920#32
  let c0_i32_1316 : BitVec 32 := 0#32
  let c1_i32_1318 : BitVec 32 := 1#32
  let arg14 : BitVec 32 := Scf.iv c0_i32_1316 c1_i32_1318 k0_t16
  let c128_i32 : BitVec 32 := 128#32
  let v3409 : BitVec 32 := Scalar.muli arg14 c128_i32
  let v3410 : BitVec 32 := v3409
  let v3414 : Index := Scalar.indexCast v3410
  ![1920, v3414.toNat]
@[reducible] def k0_t17_loop : Scf.Loop 32 :=
  let c0_i32_1320 : BitVec 32 := 0#32
  let c40_i32_1321 : BitVec 32 := 40#32
  let v3408 : BitVec 32 := Scalar.addi c0_i32_1320 c40_i32_1321
  let c1_i32_1322 : BitVec 32 := 1#32
  ⟨c0_i32_1320, v3408, c1_i32_1322⟩
def k0_mult17 (k0_t17 : Fin k0_t17_loop.trips) : BitVec 32 :=
  let c0_i32_1320 : BitVec 32 := 0#32
  let c1_i32_1322 : BitVec 32 := 1#32
  let arg14 : BitVec 32 := Scf.iv c0_i32_1320 c1_i32_1322 k0_t17
  let c128_i32 : BitVec 32 := 128#32
  let v3409 : BitVec 32 := Scalar.muli arg14 c128_i32
  v3409
def k0_off33 (k0_t17 : Fin k0_t17_loop.trips) : Fin 2 → Nat :=
  let c16 : Index := 16#32
  let c0_i32_1320 : BitVec 32 := 0#32
  let c1_i32_1322 : BitVec 32 := 1#32
  let arg14 : BitVec 32 := Scf.iv c0_i32_1320 c1_i32_1322 k0_t17
  let v3411 : Index := Scalar.indexCast arg14
  ![16, v3411.toNat]
def k0_off34 (k0_t17 : Fin k0_t17_loop.trips) : Fin 2 → Nat :=
  let c2048_1324 : Index := 2048#32
  let c0_i32_1320 : BitVec 32 := 0#32
  let c1_i32_1322 : BitVec 32 := 1#32
  let arg14 : BitVec 32 := Scf.iv c0_i32_1320 c1_i32_1322 k0_t17
  let c128_i32 : BitVec 32 := 128#32
  let v3409 : BitVec 32 := Scalar.muli arg14 c128_i32
  let v3410 : BitVec 32 := v3409
  let v3414 : Index := Scalar.indexCast v3410
  ![2048, v3414.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S17x40 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x5120 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2112x5120 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1536 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x64 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x5120 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x40 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S1x4096x5120 : Shape := ⟨3, ![1, 4096, 5120]⟩
abbrev S2112x5120 : Shape := ⟨2, ![2112, 5120]⟩
abbrev S17x40 : Shape := ⟨2, ![17, 40]⟩
abbrev S512 : Shape := ⟨1, ![512]⟩
abbrev S1536 : Shape := ⟨1, ![1536]⟩
abbrev S4096x40x128 : Shape := ⟨3, ![4096, 40, 128]⟩
abbrev S_ : Shape := ⟨0, ![]⟩
abbrev S4096x40 : Shape := ⟨2, ![4096, 40]⟩
abbrev S246 : Shape := ⟨1, ![246]⟩
abbrev S4096x40x1 : Shape := ⟨3, ![4096, 40, 1]⟩
abbrev S1x1x246 : Shape := ⟨3, ![1, 1, 246]⟩
abbrev S4096x40x246 : Shape := ⟨3, ![4096, 40, 246]⟩
abbrev S4096x5120 : Shape := ⟨2, ![4096, 5120]⟩
abbrev S17x128x40 : Shape := ⟨3, ![17, 128, 40]⟩
abbrev S2176x40 : Shape := ⟨2, ![2176, 40]⟩
abbrev S2176x40x128 : Shape := ⟨3, ![2176, 40, 128]⟩
abbrev S2176x5120 : Shape := ⟨2, ![2176, 5120]⟩
abbrev S4096x2112 : Shape := ⟨2, ![4096, 2112]⟩
abbrev S4096x1536 : Shape := ⟨2, ![4096, 1536]⟩
abbrev S4096x512 : Shape := ⟨2, ![4096, 512]⟩
abbrev S4096x64 : Shape := ⟨2, ![4096, 64]⟩
abbrev S4096 : Shape := ⟨1, ![4096]⟩
abbrev S4096x1 : Shape := ⟨2, ![4096, 1]⟩
abbrev S1x1536 : Shape := ⟨2, ![1, 1536]⟩
abbrev S1x512 : Shape := ⟨2, ![1, 512]⟩

abbrev nBuf : Space → Nat
  | .hbm => 110
  | .vmem => 5
  | .smem => 0
  | _ => 0

abbrev bufTy : (tb : Table) → Fin (tcTables nBuf tb) → BufTy
  | .hbm, ⟨0, _⟩ => ⟨S1x4096x5120, .bf16⟩
  | .hbm, ⟨1, _⟩ => ⟨S2112x5120, .fp8e4m3⟩
  | .hbm, ⟨2, _⟩ => ⟨S17x40, .f32⟩
  | .hbm, ⟨3, _⟩ => ⟨S512, .bf16⟩
  | .hbm, ⟨4, _⟩ => ⟨S1536, .bf16⟩
  | .hbm, ⟨5, _⟩ => ⟨S1x4096x5120, .f32⟩
  | .hbm, ⟨6, _⟩ => ⟨S4096x40x128, .f32⟩
  | .hbm, ⟨7, _⟩ => ⟨S4096x40x128, .f32⟩
  | .hbm, ⟨8, _⟩ => ⟨S_, .f32⟩
  | .hbm, ⟨9, _⟩ => ⟨S4096x40, .f32⟩
  | .hbm, ⟨10, _⟩ => ⟨S246, .i32⟩
  | .hbm, ⟨11, _⟩ => ⟨S_, .i32⟩
  | .hbm, ⟨12, _⟩ => ⟨S246, .i32⟩
  | .hbm, ⟨13, _⟩ => ⟨S246, .i32⟩
  | .hbm, ⟨14, _⟩ => ⟨S246, .f32⟩
  | .hbm, ⟨15, _⟩ => ⟨S_, .f32⟩
  | .hbm, ⟨16, _⟩ => ⟨S246, .f32⟩
  | .hbm, ⟨17, _⟩ => ⟨S246, .f32⟩
  | .hbm, ⟨18, _⟩ => ⟨S4096x40x1, .f32⟩
  | .hbm, ⟨19, _⟩ => ⟨S_, .f32⟩
  | .hbm, ⟨20, _⟩ => ⟨S246, .f32⟩
  | .hbm, ⟨21, _⟩ => ⟨S246, .f32⟩
  | .hbm, ⟨22, _⟩ => ⟨S1x1x246, .f32⟩
  | .hbm, ⟨23, _⟩ => ⟨S4096x40x246, .f32⟩
  | .hbm, ⟨24, _⟩ => ⟨S4096x40x246, .f32⟩
  | .hbm, ⟨25, _⟩ => ⟨S4096x40x246, .i1⟩
  | .hbm, ⟨26, _⟩ => ⟨S_, .f32⟩
  | .hbm, ⟨27, _⟩ => ⟨S4096x40x246, .f32⟩
  | .hbm, ⟨28, _⟩ => ⟨S4096x40x246, .f32⟩
  | .hbm, ⟨29, _⟩ => ⟨S4096x40x246, .f32⟩
  | .hbm, ⟨30, _⟩ => ⟨S_, .f32⟩
  | .hbm, ⟨31, _⟩ => ⟨S4096x40, .f32⟩
  | .hbm, ⟨32, _⟩ => ⟨S_, .f32⟩
  | .hbm, ⟨33, _⟩ => ⟨S4096x40, .f32⟩
  | .hbm, ⟨34, _⟩ => ⟨S4096x40, .i1⟩
  | .hbm, ⟨35, _⟩ => ⟨S_, .f32⟩
  | .hbm, ⟨36, _⟩ => ⟨S4096x40, .f32⟩
  | .hbm, ⟨37, _⟩ => ⟨S4096x40, .f32⟩
  | .hbm, ⟨38, _⟩ => ⟨S_, .f32⟩
  | .hbm, ⟨39, _⟩ => ⟨S4096x40, .f32⟩
  | .hbm, ⟨40, _⟩ => ⟨S4096x40, .f32⟩
  | .hbm, ⟨41, _⟩ => ⟨S4096x40x1, .f32⟩
  | .hbm, ⟨42, _⟩ => ⟨S4096x40x128, .f32⟩
  | .hbm, ⟨43, _⟩ => ⟨S4096x40x128, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S4096x40x128, .f32⟩
  | .hbm, ⟨48, _⟩ => ⟨S4096x40x128, .f32⟩
  | .hbm, ⟨49, _⟩ => ⟨S_, .f32⟩
  | .hbm, ⟨50, _⟩ => ⟨S4096x40x128, .f32⟩
  | .hbm, ⟨51, _⟩ => ⟨S4096x40x128, .f32⟩
  | .hbm, ⟨52, _⟩ => ⟨S4096x5120, .f32⟩
  | .hbm, ⟨53, _⟩ => ⟨S4096x5120, .fp8e4m3⟩
  | .hbm, ⟨54, _⟩ => ⟨S4096x5120, .bf16⟩
  | .hbm, ⟨55, _⟩ => ⟨S2112x5120, .bf16⟩
  | .hbm, ⟨56, _⟩ => ⟨S4096x40x128, .bf16⟩
  | .hbm, ⟨57, _⟩ => ⟨S4096x40, .bf16⟩
  | .hbm, ⟨58, _⟩ => ⟨S4096x40x1, .bf16⟩
  | .hbm, ⟨59, _⟩ => ⟨S4096x40x128, .bf16⟩
  | .hbm, ⟨60, _⟩ => ⟨S4096x40x128, .bf16⟩
  | .hbm, ⟨61, _⟩ => ⟨S4096x5120, .bf16⟩
  | .hbm, ⟨62, _⟩ => ⟨S17x128x40, .f32⟩
  | .hbm, ⟨63, _⟩ => ⟨S2176x40, .f32⟩
  | .hbm, ⟨64, _⟩ => ⟨S2176x40x128, .f32⟩
  | .hbm, ⟨65, _⟩ => ⟨S2176x5120, .f32⟩
  | .hbm, ⟨66, _⟩ => ⟨S2112x5120, .f32⟩
  | .hbm, ⟨67, _⟩ => ⟨S2112x5120, .bf16⟩
  | .hbm, ⟨68, _⟩ => ⟨S2112x5120, .bf16⟩
  | .hbm, ⟨69, _⟩ => ⟨S4096x2112, .f32⟩
  | .hbm, ⟨70, _⟩ => ⟨S4096x1536, .f32⟩
  | .hbm, ⟨71, _⟩ => ⟨S4096x512, .f32⟩
  | .hbm, ⟨72, _⟩ => ⟨S4096x64, .f32⟩
  | .hbm, ⟨73, _⟩ => ⟨S4096x1536, .f32⟩
  | .hbm, ⟨74, _⟩ => ⟨S_, .f32⟩
  | .hbm, ⟨75, _⟩ => ⟨S4096, .f32⟩
  | .hbm, ⟨76, _⟩ => ⟨S4096x1, .f32⟩
  | .hbm, ⟨77, _⟩ => ⟨S_, .f32⟩
  | .hbm, ⟨78, _⟩ => ⟨S4096x1, .f32⟩
  | .hbm, ⟨79, _⟩ => ⟨S4096x1, .f32⟩
  | .hbm, ⟨80, _⟩ => ⟨S_, .f32⟩
  | .hbm, ⟨81, _⟩ => ⟨S4096x1, .f32⟩
  | .hbm, ⟨82, _⟩ => ⟨S4096x1, .f32⟩
  | .hbm, ⟨83, _⟩ => ⟨S4096x1, .f32⟩
  | .hbm, ⟨84, _⟩ => ⟨S4096x1536, .f32⟩
  | .hbm, ⟨85, _⟩ => ⟨S4096x1536, .f32⟩
  | .hbm, ⟨86, _⟩ => ⟨S1536, .f32⟩
  | .hbm, ⟨87, _⟩ => ⟨S1x1536, .f32⟩
  | .hbm, ⟨88, _⟩ => ⟨S4096x1536, .f32⟩
  | .hbm, ⟨89, _⟩ => ⟨S4096x1536, .f32⟩
  | .hbm, ⟨90, _⟩ => ⟨S4096x1536, .bf16⟩
  | .hbm, ⟨91, _⟩ => ⟨S4096x512, .f32⟩
  | .hbm, ⟨92, _⟩ => ⟨S_, .f32⟩
  | .hbm, ⟨93, _⟩ => ⟨S4096, .f32⟩
  | .hbm, ⟨94, _⟩ => ⟨S4096x1, .f32⟩
  | .hbm, ⟨95, _⟩ => ⟨S_, .f32⟩
  | .hbm, ⟨96, _⟩ => ⟨S4096x1, .f32⟩
  | .hbm, ⟨97, _⟩ => ⟨S4096x1, .f32⟩
  | .hbm, ⟨98, _⟩ => ⟨S_, .f32⟩
  | .hbm, ⟨99, _⟩ => ⟨S4096x1, .f32⟩
  | .hbm, ⟨100, _⟩ => ⟨S4096x1, .f32⟩
  | .hbm, ⟨101, _⟩ => ⟨S4096x1, .f32⟩
  | .hbm, ⟨102, _⟩ => ⟨S4096x512, .f32⟩
  | .hbm, ⟨103, _⟩ => ⟨S4096x512, .f32⟩
  | .hbm, ⟨104, _⟩ => ⟨S512, .f32⟩
  | .hbm, ⟨105, _⟩ => ⟨S1x512, .f32⟩
  | .hbm, ⟨106, _⟩ => ⟨S4096x512, .f32⟩
  | .hbm, ⟨107, _⟩ => ⟨S4096x512, .f32⟩
  | .hbm, ⟨108, _⟩ => ⟨S4096x512, .bf16⟩
  | .hbm, ⟨109, _⟩ => ⟨S4096x64, .bf16⟩
  | .local _ .vmem, ⟨0, _⟩ => ⟨S4096x5120, .f32⟩
  | .local _ .vmem, ⟨1, _⟩ => ⟨S2112x5120, .fp8e4m3⟩
  | .local _ .vmem, ⟨2, _⟩ => ⟨S4096x5120, .fp8e4m3⟩
  | .local _ .vmem, ⟨3, _⟩ => ⟨S4096x5120, .bf16⟩
  | .local _ .vmem, ⟨4, _⟩ => ⟨S2112x5120, .bf16⟩
  | _, _ => ⟨S1x4096x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_call1_v0 : Ref sig .tc := ⟨.hbm, 36, rfl⟩
abbrev main_v21 : Ref sig .tc := ⟨.hbm, 37, rfl⟩
abbrev main_cst_6 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_7 : Ref sig .tc := ⟨.hbm, 44, rfl⟩
abbrev main_cst_8 : Ref sig .tc := ⟨.hbm, 45, rfl⟩
abbrev main_call2_v0 : Ref sig .tc := ⟨.hbm, 46, rfl⟩
abbrev main_call2_v1 : Ref sig .tc := ⟨.hbm, 47, rfl⟩
abbrev main_call2_v2 : Ref sig .tc := ⟨.hbm, 48, rfl⟩
abbrev main_call2_v3 : Ref sig .tc := ⟨.hbm, 49, rfl⟩
abbrev main_call2_v4 : Ref sig .tc := ⟨.hbm, 50, rfl⟩
abbrev main_v27 : Ref sig .tc := ⟨.hbm, 51, rfl⟩
abbrev main_v28 : Ref sig .tc := ⟨.hbm, 52, rfl⟩
abbrev main_v29_0 : Ref sig .tc := ⟨.hbm, 53, rfl⟩
abbrev main_v29_1 : Ref sig .tc := ⟨.hbm, 54, rfl⟩
abbrev main_v29_2 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_cst_9 : Ref sig .tc := ⟨.hbm, 74, rfl⟩
abbrev main_v48 : Ref sig .tc := ⟨.hbm, 75, rfl⟩
abbrev main_v49 : Ref sig .tc := ⟨.hbm, 76, rfl⟩
abbrev main_cst_10 : Ref sig .tc := ⟨.hbm, 77, rfl⟩
abbrev main_v50 : Ref sig .tc := ⟨.hbm, 78, rfl⟩
abbrev main_v51 : Ref sig .tc := ⟨.hbm, 79, rfl⟩
abbrev main_cst_11 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_cst_12 : Ref sig .tc := ⟨.hbm, 92, rfl⟩
abbrev main_v63 : Ref sig .tc := ⟨.hbm, 93, rfl⟩
abbrev main_v64 : Ref sig .tc := ⟨.hbm, 94, rfl⟩
abbrev main_cst_13 : Ref sig .tc := ⟨.hbm, 95, rfl⟩
abbrev main_v65 : Ref sig .tc := ⟨.hbm, 96, rfl⟩
abbrev main_v66 : Ref sig .tc := ⟨.hbm, 97, rfl⟩
abbrev main_cst_14 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x5120 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2112x5120 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x5120 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x5120 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2112x5120 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Dequant.lean ====
module

public import proofs.«01_k».proof.Proof.Gen.KernelIdeal.Skeleton
public import proofs.«01_k».proof.Proof.Gen.KernelIdeal.Loops
public import Idealize.ShloMosaic.Lib.Exec
public import Idealize.ShloMosaic.Lib.Tactic
public import Idealize.ShloMosaic.Lib.Pipeline.Kit
public import Idealize.ShloMosaic.Lib.Pipeline.FrameBody
public import Idealize.ShloMosaic.Lib.Pipeline.Value
public import Idealize.ShloMosaic.Lib.Pipeline.ReadBack

@[expose] public section

set_option maxRecDepth 8192
set_option maxHeartbeats 4000000

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄G" => MT nD τ sig Unit (Elt F) ℕ (UR sig nD τ) ℕ

/-- A block of `n` rows and 128 columns. -/
abbrev SN (n : ℕ) : Shape := ⟨2, ![n, 128]⟩

/-- What one trip of a weight loop stores: the block of codes times its scale. -/
def dqPay (n : ℕ) (hc : (SN n).ShapeCasts (SN n)) (s : Elt F .f32) (w : Vec F (SN n) .fp8e4m3) : FVec F (SN n) .bf16 :=
  shapeCast (SN n) (mulf (extf .bf16 w bitsLt_fp8e4m3_bf16)
    (broadcast (SN n) (Scalar.truncf .bf16 bitsLt_bf16_f32 s))) hc

/-- One trip of a weight loop, over its offsets. -/
def dqBody (n : ℕ) (hn : 0 < (SN n).numel) (hc : (SN n).ShapeCasts (SN n))
    (arg1 : Memref sig .tc .smem S17x40 .f32) (arg3 : Memref sig .tc .vmem S2112x5120 .fp8e4m3)
    (arg11 : Memref sig .tc .vmem S2112x5120 .bf16) (harg11 : arg11.IsWhole) (o1 o2 : Fin 2 → Nat)
    (h1 : ∀ a, o1 a + S1x1.size a ≤ S17x40.size a) (h2 : ∀ a, o2 a + (SN n).size a ≤ S2112x5120.size a)
    (hp : (Rect.unit (s := S2112x5120) o2 (SN n).size h2).PackedRows (EltTy.packing .bf16)) :
    Prog (TpuEff nD τ sig (Elt F) Λ₀ .tc) Unit := do
  let s : Elt F .f32 ← smemLoad arg1 (Rect.unit (s := S17x40) o1 S1x1.size h1) numel1_S1x1 rfl
  let w : Vec F (SN n) .fp8e4m3 ← Prog.lift (.load arg3 (Rect.unit (s := S2112x5120) o2 (SN n).size h2).toLoadRect (View.loadsAt_vmem hn))
  let _d : Vec F (SN n) .bf16 ← Prog.lift (.load arg11 (Rect.unit (s := S2112x5120) o2 (SN n).size h2).toLoadRect (View.loadsAt_vmem hn))
  Prog.lift (.store arg11 (Rect.unit (s := S2112x5120) o2 (SN n).size h2) (dqPay n hc s w) Finset.univ
    (View.stores_vmem hn (harg11.storeExact_slice rfl _ hp) (fun _ => rfl)) (.inl rfl))
  pure ⟨⟩

/-- What one trip leaves: its block written into the scratch. -/
def dqBody_wp (𝒱 : Variants) (c : Dev nD) (bd : Option 𝒱.V) (n : ℕ) (hn : 0 < (SN n).numel) (hc : (SN n).ShapeCasts (SN n))
    (arg1 : Memref sig .tc .smem S17x40 .f32) (arg3 : Memref sig .tc .vmem S2112x5120 .fp8e4m3)
    (arg11 : Memref sig .tc .vmem S2112x5120 .bf16) (harg11 : arg11.IsWhole) (o1 o2 : Fin 2 → Nat)
    (h1 : ∀ a, o1 a + S1x1.size a ≤ S17x40.size a) (h2 : ∀ a, o2 a + (SN n).size a ≤ S2112x5120.size a)
    (hp : (Rect.unit (s := S2112x5120) o2 (SN n).size h2).PackedRows (EltTy.packing .bf16))
    (X1 : BufTy.Contents (Elt F) arg1.view.ty) (X3 : BufTy.Contents (Elt F) arg3.view.ty) :
    { L : List (View.Piece (Elt F) S2112x5120 .bf16) // ∀ (E : Set ℕ) (f : BufTy.Contents (Elt F) arg11.view.ty),
    (iprop((arg1.view.loc (c : Thread nD τ) ↦[arg1.view.set]{fullShare} X1) ∗ (arg3.view.loc (c : Thread nD τ) ↦[arg3.view.set]{fullShare} X3) ∗ (arg11.view.loc (c : Thread nD τ) ↦[arg11.view.set]{fullShare} f)) : sProp 𝕄G)
      ⊢ wp frame (wpE (defs₀ (F := F)) 𝒱 (c : Thread nD τ) bd) E
          (dqBody n hn hc arg1 arg3 arg11 harg11 o1 o2 h1 h2 hp)
          (fun _ => iprop((arg1.view.loc (c : Thread nD τ) ↦[arg1.view.set]{fullShare} X1) ∗ (arg3.view.loc (c : Thread nD τ) ↦[arg3.view.set]{fullShare} X3)
            ∗ (arg11.view.loc (c : Thread nD τ) ↦[arg11.view.set]{fullShare} arg11.view.writes (Elt F) f L))) } := by
  refine ⟨?_, fun E f => ?run⟩
  case run =>
    unfold dqBody
    iintro ⟨HR_arg1, HR_arg3, HW_arg11⟩
    sl_exec
    sl_step
    sl_close

/-- The scale of an element of the weight: the one of its 128×128 block. -/
def scIdx (y : S2112x5120.Idx) : S17x40.Idx := fun a =>
  ⟨(y a).val / 128, by
    match a with
    | ⟨0, _⟩ => have h : (y 0).val < 2112 := (y 0).isLt; show (y 0).val / 128 < 17; omega
    | ⟨1, _⟩ => have h : (y 1).val < 5120 := (y 1).isLt; show (y 1).val / 128 < 40; omega⟩

/-- The dequantised weight: each code times the scale of its block, in bf16. -/
def WB (x0 : S17x40.Idx → Elt F .f32) (x2 : S2112x5120.Idx → Elt F .fp8e4m3) (y : S2112x5120.Idx) : Elt F .bf16 :=
  FloatOps.mulf (φ := .bf16) (FloatOps.extf (φ := .fp8e4m3) .bf16 bitsLt_fp8e4m3_bf16 (x2 y)) (Scalar.truncf .bf16 bitsLt_bf16_f32 (x0 (scIdx y)))

/-- The scratch is the dequantised weight in the first `nb` rows of blocks, and in the next one up to block `k`. -/
def Good (x0 : S17x40.Idx → Elt F .f32) (x2 : S2112x5120.Idx → Elt F .fp8e4m3) (nb k : ℕ) (d : S2112x5120.Idx → Elt F .bf16) : Prop :=
  ∀ y : S2112x5120.Idx, ((y 0).val < 128 * nb ∨ ((y 0).val < 128 * (nb + 1) ∧ (y 1).val < 128 * k)) → d y = WB x0 x2 y

theorem Good.next {x0 : S17x40.Idx → Elt F .f32} {x2 : S2112x5120.Idx → Elt F .fp8e4m3} {nb : ℕ} {d : S2112x5120.Idx → Elt F .bf16}
    (h : Good x0 x2 nb 40 d) : Good x0 x2 (nb + 1) 0 d := fun y hy => h y (by
  have h1 : (y 1).val < 5120 := (y 1).isLt
  omega)

/-- The piece a trip writes, read at an index: the dequantised weight there. -/
theorem dqBody_piece (𝒱 : Variants) (c : Dev nD) (bd : Option 𝒱.V) (n : ℕ) (hn : 0 < (SN n).numel) (hc : (SN n).ShapeCasts (SN n))
    (arg1 : Memref sig .tc .smem S17x40 .f32) (arg3 : Memref sig .tc .vmem S2112x5120 .fp8e4m3)
    (arg11 : Memref sig .tc .vmem S2112x5120 .bf16) (harg11 : arg11.IsWhole) (o1 o2 : Fin 2 → Nat)
    (h1 : ∀ a, o1 a + S1x1.size a ≤ S17x40.size a) (h2 : ∀ a, o2 a + (SN n).size a ≤ S2112x5120.size a)
    (hp : (Rect.unit (s := S2112x5120) o2 (SN n).size h2).PackedRows (EltTy.packing .bf16))
    (X1 : BufTy.Contents (Elt F) arg1.view.ty) (X3 : BufTy.Contents (Elt F) arg3.view.ty)
    (hn128 : n ≤ 128) (nb k : ℕ) (ho1 : o1 = ![nb, k]) (ho2 : o2 = ![128 * nb, 128 * k])
    (hcov : ∀ r < 2112, r < 128 * (nb + 1) → r < 128 * nb + n)
    (f : BufTy.Contents (Elt F) arg11.view.ty)
    (hf : Good (arg1.view.read (Elt F) X1) (arg3.view.read (Elt F) X3) nb k (arg11.view.read (Elt F) f)) :
    Good (arg1.view.read (Elt F) X1) (arg3.view.read (Elt F) X3) nb (k + 1)
      (arg11.view.read (Elt F) (arg11.view.writes (Elt F) f (dqBody_wp 𝒱 c bd n hn hc arg1 arg3 arg11 harg11 o1 o2 h1 h2 hp X1 X3).1)) := by
  subst ho1 ho2
  unfold dqBody_wp
  dsimp only
  intro y hy
  have hy0 : (y 0).val < 2112 := (y 0).isLt
  by_cases hm : 128 * nb ≤ (y 0).val ∧ 128 * k ≤ (y 1).val ∧ (y 1).val < 128 * (k + 1) ∧ (y 0).val < 128 * nb + n
  · refine View.read_writes_apply_of_pieces arg11.view f (WB (arg1.view.read (Elt F) X1) (arg3.view.read (Elt F) X3)) _ ?_ y ?_
    · intro p hp x
      rw [List.mem_singleton] at hp
      subst hp
      have hx0 : (x 0).val < n := (x 0).isLt
      have hx1 : (x 1).val < 128 := (x 1).isLt
      show dqPay n hc _ _ x = _
      unfold dqPay
      rw [shapeCast_self]
      have hs : dqBody_wp.sl.r arg1 ![nb, k] h1 X1
          = arg1.view.read (Elt F) X1 (scIdx ((Rect.unit (s := S2112x5120) ![128 * nb, 128 * k] (SN n).size h2).emb x)) := by
        refine congrArg (arg1.view.read (Elt F) X1) ?_
        funext a
        apply Fin.ext
        match a with
        | ⟨0, _⟩ => show nb + 1 * 0 = (128 * nb + 1 * (x 0).val) / 128; omega
        | ⟨1, _⟩ => show k + 1 * 0 = (128 * k + 1 * (x 1).val) / 128; omega
      rw [hs]
      rfl
    · refine ⟨_, List.mem_singleton.mpr rfl, ?_⟩
      rw [Rect.mem_set_unit]
      intro a
      match a with
      | ⟨0, _⟩ => exact ⟨hm.1, hm.2.2.2⟩
      | ⟨1, _⟩ => exact ⟨hm.2.1, by show (y 1).val < 128 * k + 128; omega⟩
  · rw [View.read_writes_apply_of_forall_not_mem]
    · have := hcov _ hy0
      exact hf y (by omega)
    · intro p hp hmem
      rw [List.mem_singleton] at hp
      subst hp
      rw [Rect.mem_set_unit] at hmem
      have m0 : 128 * nb ≤ (y 0).val ∧ (y 0).val < 128 * nb + n := hmem 0
      have m1 : 128 * k ≤ (y 1).val ∧ (y 1).val < 128 * k + 128 := hmem 1
      omega

/-- What a weight loop keeps: the scales, the codes, and the scratch dequantised so far. -/
abbrev HW (c : Dev nD) (arg1 : Memref sig .tc .smem S17x40 .f32) (arg3 : Memref sig .tc .vmem S2112x5120 .fp8e4m3)
    (arg11 : Memref sig .tc .vmem S2112x5120 .bf16) (X1 : BufTy.Contents (Elt F) arg1.view.ty) (X3 : BufTy.Contents (Elt F) arg3.view.ty) (nb k : ℕ) : sProp 𝕄G :=
  iprop((arg1.view.loc (c : Thread nD τ) ↦[arg1.view.set]{fullShare} X1) ∗ (arg3.view.loc (c : Thread nD τ) ↦[arg3.view.set]{fullShare} X3)
    ∗ (∃ f, (arg11.view.loc (c : Thread nD τ) ↦[arg11.view.set]{fullShare} f)
      ∗ ⌜Good (arg1.view.read (Elt F) X1) (arg3.view.read (Elt F) X3) nb k (arg11.view.read (Elt F) f)⌝))

/-- One weight loop: one more row of blocks is dequantised. -/
theorem loop_wp (𝒱 : Variants) (c : Dev nD) (bd : Option 𝒱.V) (E : Set ℕ) (n : ℕ) (hn : 0 < (SN n).numel) (hc : (SN n).ShapeCasts (SN n))
    (arg1 : Memref sig .tc .smem S17x40 .f32) (arg3 : Memref sig .tc .vmem S2112x5120 .fp8e4m3)
    (arg11 : Memref sig .tc .vmem S2112x5120 .bf16) (harg11 : arg11.IsWhole) (ok : k0_t1_loop.OK) (o1 o2 : Fin k0_t1_loop.trips → Fin 2 → Nat)
    (h1 : ∀ k a, o1 k a + S1x1.size a ≤ S17x40.size a) (h2 : ∀ k a, o2 k a + (SN n).size a ≤ S2112x5120.size a)
    (hp : ∀ k, (Rect.unit (s := S2112x5120) (o2 k) (SN n).size (h2 k)).PackedRows (EltTy.packing .bf16))
    (X1 : BufTy.Contents (Elt F) arg1.view.ty) (X3 : BufTy.Contents (Elt F) arg3.view.ty)
    (hn128 : n ≤ 128) (nb : ℕ) (ho1 : ∀ k, o1 k = ![nb, k.val]) (ho2 : ∀ k, o2 k = ![128 * nb, 128 * k.val])
    (hcov : ∀ r < 2112, r < 128 * (nb + 1) → r < 128 * nb + n) :
    HW (F := F) c arg1 arg3 arg11 X1 X3 nb 0 ⊢ wp frame (wpE (defs₀ (F := F)) 𝒱 (c : Thread nD τ) bd) E
      (Scf.Loop.for k0_t1_loop ok ⟨⟩ (fun k (_ : Unit) => dqBody n hn hc arg1 arg3 arg11 harg11 (o1 k) (o2 k) (h1 k) (h2 k) (hp k)))
      (fun _ => HW (F := F) c arg1 arg3 arg11 X1 X3 (nb + 1) 0) := by
  have ht : k0_t1_loop.trips = 40 := by decide
  iintro H
  iapply (Scf.wp_for Idealize.ShloMosaic.frame (wpE (defs₀ (F := F)) 𝒱 (c : Thread nD τ) bd) E k0_t1_loop.lb k0_t1_loop.ub k0_t1_loop.st ok ⟨⟩ _
    (fun k _ => HW (F := F) c arg1 arg3 arg11 X1 X3 nb k))
  · intro k acc
    iintro ⟨H1, H3, ⟨%f, H11, %hf⟩⟩
    iapply (wp_wand_r Idealize.ShloMosaic.frame (wpE (defs₀ (F := F)) 𝒱 (c : Thread nD τ) bd) E)
    isplitl [H1 H3 H11]
    · iapply ((dqBody_wp (F := F) 𝒱 c bd n hn hc arg1 arg3 arg11 harg11 (o1 k) (o2 k) (h1 k) (h2 k) (hp k) X1 X3).2 E f)
      isplitl [H1]; · iexact H1
      isplitl [H3]; · iexact H3
      iexact H11
    · iintro %_ ⟨H1, H3, H11⟩
      isplitl [H1]; · iexact H1
      isplitl [H3]; · iexact H3
      iexists _; isplitl [H11]; · iexact H11
      ipureintro
      exact dqBody_piece (F := F) 𝒱 c bd n hn hc arg1 arg3 arg11 harg11 (o1 k) (o2 k) (h1 k) (h2 k) (hp k) X1 X3 hn128 nb k.val (ho1 k) (ho2 k) hcov f hf
  · isplitl [H]; · iexact H
    iintro %acc ⟨H1, H3, ⟨%f, H11, %hf⟩⟩
    isplitl [H1]; · iexact H1
    isplitl [H3]; · iexact H3
    iexists f; isplitl [H11]; · iexact H11
    ipureintro
    refine Good.next ?_
    have : Scf.trips k0_t1_loop.lb k0_t1_loop.ub k0_t1_loop.st = 40 := ht
    rw [this] at hf
    exact hf

/-- A loop followed by the rest. -/
theorem seq_wp (𝒱 : Variants) (c : Dev nD) (bd : Option 𝒱.V) (E : Set ℕ) {P R : sProp 𝕄G} {β : Type}
    (p : Prog (TpuEff nD τ sig (Elt F) Λ₀ .tc) PUnit) (q : PUnit → Prog (TpuEff nD τ sig (Elt F) Λ₀ .tc) β) (Q : β → sProp 𝕄G)
    (hp : P ⊢ wp frame (wpE (defs₀ (F := F)) 𝒱 (c : Thread nD τ) bd) E p (fun _ => R))
    (hq : R ⊢ wp frame (wpE (defs₀ (F := F)) 𝒱 (c : Thread nD τ) bd) E (q ⟨⟩) Q) :
    P ⊢ wp frame (wpE (defs₀ (F := F)) 𝒱 (c : Thread nD τ) bd) E (p >>= q) Q := by
  rw [wp_bind]
  iintro H
  iapply (wp_wand_r Idealize.ShloMosaic.frame (wpE (defs₀ (F := F)) 𝒱 (c : Thread nD τ) bd) E)
  isplitl [H]
  · iapply hp; iexact H
  · iintro %_ H
    iapply hq; iexact H

/-- The value of a loop's induction word, and of 128 times it. -/
theorem iv_toNat (k : Fin k0_t1_loop.trips) : (Scalar.indexCast (Scf.iv 0#32 1#32 k) : Index).toNat = k.val ∧
    (Scalar.indexCast (Scalar.muli (Scf.iv 0#32 1#32 k) 128#32) : Index).toNat = 128 * k.val := by
  have ht : k0_t1_loop.trips = 40 := by decide
  have hk : k.val < 40 := ht ▸ k.isLt
  have key : ∀ j : Fin 40, (Scalar.indexCast (Scf.iv 0#32 1#32 j.val) : Index).toNat = j.val ∧
    (Scalar.indexCast (Scalar.muli (Scf.iv 0#32 1#32 j.val) 128#32) : Index).toNat = 128 * j.val := by decide
  exact key ⟨k.val, hk⟩

/-- The offsets of a trip, given the row of blocks. -/
theorem off_eq (r r' : ℕ) (h : r = r') (k : Fin k0_t1_loop.trips) :
    ![r, (Scalar.indexCast (Scf.iv 0#32 1#32 k) : Index).toNat] = ![r', k.val] ∧
    ![r, (Scalar.indexCast (Scalar.muli (Scf.iv 0#32 1#32 k) 128#32) : Index).toNat] = ![r', 128 * k.val] := by
  rw [(iv_toNat k).1, (iv_toNat k).2, h]; exact ⟨rfl, rfl⟩

section Head

variable (i : grid0.Coords)
  (arg1 : Memref sig .tc .smem S17x40 .f32)
  (harg1 : arg1.IsWhole)
  (arg2 : Memref sig .tc .vmem S256x5120 .bf16)
  (harg2 : arg2.IsWhole)
  (arg3 : Memref sig .tc .vmem S2112x5120 .fp8e4m3)
  (harg3 : arg3.IsWhole)
  (arg4 : Memref sig .tc .vmem S1x1536 .bf16)
  (harg4 : arg4.IsWhole)
  (arg5 : Memref sig .tc .vmem S1x512 .bf16)
  (harg5 : arg5.IsWhole)
  (arg6 : Memref sig .tc .vmem S256x1536 .bf16)
  (harg6 : arg6.IsWhole)
  (arg7 : Memref sig .tc .vmem S256x512 .bf16)
  (harg7 : arg7.IsWhole)
  (arg8 : Memref sig .tc .vmem S256x64 .bf16)
  (harg8 : arg8.IsWhole)
  (arg9 : Memref sig .tc .vmem S256x5120 .fp8e4m3)
  (harg9 : arg9.IsWhole)
  (arg10 : Memref sig .tc .vmem S256x40 .f32)
  (harg10 : arg10.IsWhole)
  (arg11 : Memref sig .tc .vmem S2112x5120 .bf16)
  (harg11 : arg11.IsWhole)
  (arg12 : Memref sig .tc .vmem S256x5120 .bf16)
  (harg12 : arg12.IsWhole)
  (arg13 : Memref sig .tc .vmem S256x2048 .f32)
  (harg13 : arg13.IsWhole)

/-- The part of the body under its condition: the weight dequantised into the scratch. -/
def headProg : Prog (TpuEff nD τ sig (Elt F) Λ₀ .tc) PUnit := do
  if k0_h1 : k0_cond1 i = 1#1 then do
    k0_part1 i arg1 harg1 arg2 harg2 arg3 harg3 arg4 harg4 arg5 harg5 arg6 harg6 arg7 harg7 arg8 harg8 arg9 harg9 arg10 harg10 arg11 harg11 arg12 harg12 arg13 harg13 k0_h1
    Scf.Loop.for k0_t11_loop (k0_t11_ok i k0_h1) ⟨⟩ (k0_t11_body i arg1 harg1 arg2 harg2 arg3 harg3 arg4 harg4 arg5 harg5 arg6 harg6 arg7 harg7 arg8 harg8 arg9 harg9 arg10 harg10 arg11 harg11 arg12 harg12 arg13 harg13 k0_h1)
    Scf.Loop.for k0_t12_loop (k0_t12_ok i k0_h1) ⟨⟩ (k0_t12_body i arg1 harg1 arg2 harg2 arg3 harg3 arg4 harg4 arg5 harg5 arg6 harg6 arg7 harg7 arg8 harg8 arg9 harg9 arg10 harg10 arg11 harg11 arg12 harg12 arg13 harg13 k0_h1)
    Scf.Loop.for k0_t13_loop (k0_t13_ok i k0_h1) ⟨⟩ (k0_t13_body i arg1 harg1 arg2 harg2 arg3 harg3 arg4 harg4 arg5 harg5 arg6 harg6 arg7 harg7 arg8 harg8 arg9 harg9 arg10 harg10 arg11 harg11 arg12 harg12 arg13 harg13 k0_h1)
    Scf.Loop.for k0_t14_loop (k0_t14_ok i k0_h1) ⟨⟩ (k0_t14_body i arg1 harg1 arg2 harg2 arg3 harg3 arg4 harg4 arg5 harg5 arg6 harg6 arg7 harg7 arg8 harg8 arg9 harg9 arg10 harg10 arg11 harg11 arg12 harg12 arg13 harg13 k0_h1)
    Scf.Loop.for k0_t15_loop (k0_t15_ok i k0_h1) ⟨⟩ (k0_t15_body i arg1 harg1 arg2 harg2 arg3 harg3 arg4 harg4 arg5 harg5 arg6 harg6 arg7 harg7 arg8 harg8 arg9 harg9 arg10 harg10 arg11 harg11 arg12 harg12 arg13 harg13 k0_h1)
    Scf.Loop.for k0_t16_loop (k0_t16_ok i k0_h1) ⟨⟩ (k0_t16_body i arg1 harg1 arg2 harg2 arg3 harg3 arg4 harg4 arg5 harg5 arg6 harg6 arg7 harg7 arg8 harg8 arg9 harg9 arg10 harg10 arg11 harg11 arg12 harg12 arg13 harg13 k0_h1)
    Scf.Loop.for k0_t17_loop (k0_t17_ok i k0_h1) ⟨⟩ (k0_t17_body i arg1 harg1 arg2 harg2 arg3 harg3 arg4 harg4 arg5 harg5 arg6 harg6 arg7 harg7 arg8 harg8 arg9 harg9 arg10 harg10 arg11 harg11 arg12 harg12 arg13 harg13 k0_h1)
    pure ⟨⟩
  else do
    pure ⟨⟩

/-- What the second part does after the weight. -/
def part2Tail : Prog (TpuEff nD τ sig (Elt F) Λ₀ .tc) (Σ' (v3 : IVec S256x128 32) (v4 : FVec F S256x128 .f32) (v6 : FVec F S256x128 .bf16) (v15 : FVec F S256x128 .bf16) (v38 : FVec F S256x128 .bf16), FVec F S256x128 .bf16) := do
  have v3 : IVec S256x128 32 := iota .tc S256x128 32 [1] iota_S256x128_d1_w32
  let v5 : Vec F S256x128 .bf16 ← Prog.lift (.load arg2 (Rect.unit (s := S256x5120) ![0, 0] S256x128.size inb_S256x5120_S256x128_0_0).toLoadRect (View.loadsAt_vmem h_S256x128))
  pure ⟨v3, k0_pay19 (F := F), k0_pay20 v5, k0_pay21 v5, k0_pay22 v5, k0_pay23 (F := F)⟩

/-- The second part is the weight, then the rest. -/
theorem part2_eq : k0_part2 (F := F) i arg1 harg1 arg2 harg2 arg3 harg3 arg4 harg4 arg5 harg5 arg6 harg6 arg7 harg7 arg8 harg8 arg9 harg9 arg10 harg10 arg11 harg11 arg12 harg12 arg13 harg13
    = headProg (F := F) i arg1 harg1 arg2 harg2 arg3 harg3 arg4 harg4 arg5 harg5 arg6 harg6 arg7 harg7 arg8 harg8 arg9 harg9 arg10 harg10 arg11 harg11 arg12 harg12 arg13 harg13 >>= fun _ => part2Tail (F := F) arg2 := by
  rw [k0_part2_eq_skeleton]
  unfold k0_part2_skel headProg part2Tail
  by_cases h : k0_cond1 i = 1#1
  · simp only [dif_pos h, bind_assoc, pure_bind]
  · simp only [dif_neg h, pure_bind]

set_option maxHeartbeats 8000000 in
/-- After the head the scratch is the dequantised weight, if it was before or the condition holds. -/
theorem headProg_wp (c : Dev nD) (E : Set ℕ) (X1 : BufTy.Contents (Elt F) arg1.view.ty) (X3 : BufTy.Contents (Elt F) arg3.view.ty)
    (f : BufTy.Contents (Elt F) arg11.view.ty)
    (hf : k0_cond1 i = 1#1 ∨ arg11.view.read (Elt F) f = WB (arg1.view.read (Elt F) X1) (arg3.view.read (Elt F) X3)) :
    (iprop((arg1.view.loc (c : Thread nD τ) ↦[arg1.view.set]{fullShare} X1) ∗ (arg3.view.loc (c : Thread nD τ) ↦[arg3.view.set]{fullShare} X3)
      ∗ (arg11.view.loc (c : Thread nD τ) ↦[arg11.view.set]{fullShare} f)) : sProp 𝕄G)
    ⊢ wp frame (wpE (defs₀ (F := F)) Variants.none (c : Thread nD τ) none) E (headProg (F := F) i arg1 harg1 arg2 harg2 arg3 harg3 arg4 harg4 arg5 harg5 arg6 harg6 arg7 harg7 arg8 harg8 arg9 harg9 arg10 harg10 arg11 harg11 arg12 harg12 arg13 harg13)
      (fun _ => iprop((arg1.view.loc (c : Thread nD τ) ↦[arg1.view.set]{fullShare} X1) ∗ (arg3.view.loc (c : Thread nD τ) ↦[arg3.view.set]{fullShare} X3)
        ∗ (∃ f, (arg11.view.loc (c : Thread nD τ) ↦[arg11.view.set]{fullShare} f)
          ∗ ⌜arg11.view.read (Elt F) f = WB (arg1.view.read (Elt F) X1) (arg3.view.read (Elt F) X3)⌝))) := by
  unfold headProg
  by_cases h : k0_cond1 i = 1#1
  · rw [dif_pos h, k0_part1_eq_skeleton]
    unfold k0_part1_skel
    simp only [bind_assoc, pure_bind]
    refine (show _ ⊢ HW (F := F) c arg1 arg3 arg11 X1 X3 0 0 from ?_).trans ?_
    · iintro ⟨H1, H3, H11⟩
      isplitl [H1]; · iexact H1
      isplitl [H3]; · iexact H3
      iexists f; isplitl [H11]; · iexact H11
      ipureintro
      intro y hy
      omega
    refine seq_wp (F := F) Variants.none c none E _ _ _ (loop_wp (F := F) Variants.none c none E 128 h_S128x128 shapeCasts_S128x128_S128x128 arg1 arg3 arg11 harg11 (k0_t1_ok i h)
      k0_off1 k0_off2 (fun k => k0_off1_inb i k h) (fun k => k0_off2_inb i k h) (fun k => k0_off2_packedbf16 i k h) X1 X3 (by decide) 0
      (fun k => (off_eq _ _ rfl k).1) (fun k => (off_eq _ _ rfl k).2) (by intro r h1 h2; omega)) ?_
    refine seq_wp (F := F) Variants.none c none E _ _ _ (loop_wp (F := F) Variants.none c none E 128 h_S128x128 shapeCasts_S128x128_S128x128 arg1 arg3 arg11 harg11 (k0_t1_ok i h)
      k0_off3 k0_off4 (fun k => k0_off3_inb i k h) (fun k => k0_off4_inb i k h) (fun k => k0_off4_packedbf16 i k h) X1 X3 (by decide) 1
      (fun k => (off_eq _ _ rfl k).1) (fun k => (off_eq _ _ rfl k).2) (by intro r h1 h2; omega)) ?_
    refine seq_wp (F := F) Variants.none c none E _ _ _ (loop_wp (F := F) Variants.none c none E 128 h_S128x128 shapeCasts_S128x128_S128x128 arg1 arg3 arg11 harg11 (k0_t1_ok i h)
      k0_off5 k0_off6 (fun k => k0_off5_inb i k h) (fun k => k0_off6_inb i k h) (fun k => k0_off6_packedbf16 i k h) X1 X3 (by decide) 2
      (fun k => (off_eq _ _ rfl k).1) (fun k => (off_eq _ _ rfl k).2) (by intro r h1 h2; omega)) ?_
    refine seq_wp (F := F) Variants.none c none E _ _ _ (loop_wp (F := F) Variants.none c none E 128 h_S128x128 shapeCasts_S128x128_S128x128 arg1 arg3 arg11 harg11 (k0_t1_ok i h)
      k0_off7 k0_off8 (fun k => k0_off7_inb i k h) (fun k => k0_off8_inb i k h) (fun k => k0_off8_packedbf16 i k h) X1 X3 (by decide) 3
      (fun k => (off_eq _ _ rfl k).1) (fun k => (off_eq _ _ rfl k).2) (by intro r h1 h2; omega)) ?_
    refine seq_wp (F := F) Variants.none c none E _ _ _ (loop_wp (F := F) Variants.none c none E 128 h_S128x128 shapeCasts_S128x128_S128x128 arg1 arg3 arg11 harg11 (k0_t1_ok i h)
      k0_off9 k0_off10 (fun k => k0_off9_inb i k h) (fun k => k0_off10_inb i k h) (fun k => k0_off10_packedbf16 i k h) X1 X3 (by decide) 4
      (fun k => (off_eq _ _ rfl k).1) (fun k => (off_eq _ _ rfl k).2) (by intro r h1 h2; omega)) ?_
    refine seq_wp (F := F) Variants.none c none E _ _ _ (loop_wp (F := F) Variants.none c none E 128 h_S128x128 shapeCasts_S128x128_S128x128 arg1 arg3 arg11 harg11 (k0_t1_ok i h)
      k0_off11 k0_off12 (fun k => k0_off11_inb i k h) (fun k => k0_off12_inb i k h) (fun k => k0_off12_packedbf16 i k h) X1 X3 (by decide) 5
      (fun k => (off_eq _ _ rfl k).1) (fun k => (off_eq _ _ rfl k).2) (by intro r h1 h2; omega)) ?_
    refine seq_wp (F := F) Variants.none c none E _ _ _ (loop_wp (F := F) Variants.none c none E 128 h_S128x128 shapeCasts_S128x128_S128x128 arg1 arg3 arg11 harg11 (k0_t1_ok i h)
      k0_off13 k0_off14 (fun k => k0_off13_inb i k h) (fun k => k0_off14_inb i k h) (fun k => k0_off14_packedbf16 i k h) X1 X3 (by decide) 6
      (fun k => (off_eq _ _ rfl k).1) (fun k => (off_eq _ _ rfl k).2) (by intro r h1 h2; omega)) ?_
    refine seq_wp (F := F) Variants.none c none E _ _ _ (loop_wp (F := F) Variants.none c none E 128 h_S128x128 shapeCasts_S128x128_S128x128 arg1 arg3 arg11 harg11 (k0_t1_ok i h)
      k0_off15 k0_off16 (fun k => k0_off15_inb i k h) (fun k => k0_off16_inb i k h) (fun k => k0_off16_packedbf16 i k h) X1 X3 (by decide) 7
      (fun k => (off_eq _ _ rfl k).1) (fun k => (off_eq _ _ rfl k).2) (by intro r h1 h2; omega)) ?_
    refine seq_wp (F := F) Variants.none c none E _ _ _ (loop_wp (F := F) Variants.none c none E 128 h_S128x128 shapeCasts_S128x128_S128x128 arg1 arg3 arg11 harg11 (k0_t1_ok i h)
      k0_off17 k0_off18 (fun k => k0_off17_inb i k h) (fun k => k0_off18_inb i k h) (fun k => k0_off18_packedbf16 i k h) X1 X3 (by decide) 8
      (fun k => (off_eq _ _ rfl k).1) (fun k => (off_eq _ _ rfl k).2) (by intro r h1 h2; omega)) ?_
    refine seq_wp (F := F) Variants.none c none E _ _ _ (loop_wp (F := F) Variants.none c none E 128 h_S128x128 shapeCasts_S128x128_S128x128 arg1 arg3 arg11 harg11 (k0_t1_ok i h)
      k0_off19 k0_off20 (fun k => k0_off19_inb i k h) (fun k => k0_off20_inb i k h) (fun k => k0_off20_packedbf16 i k h) X1 X3 (by decide) 9
      (fun k => (off_eq _ _ rfl k).1) (fun k => (off_eq _ _ rfl k).2) (by intro r h1 h2; omega)) ?_
    refine seq_wp (F := F) Variants.none c none E _ _ _ (loop_wp (F := F) Variants.none c none E 128 h_S128x128 shapeCasts_S128x128_S128x128 arg1 arg3 arg11 harg11 (k0_t1_ok i h)
      k0_off21 k0_off22 (fun k => k0_off21_inb i k h) (fun k => k0_off22_inb i k h) (fun k => k0_off22_packedbf16 i k h) X1 X3 (by decide) 10
      (fun k => (off_eq _ _ rfl k).1) (fun k => (off_eq _ _ rfl k).2) (by intro r h1 h2; omega)) ?_
    refine seq_wp (F := F) Variants.none c none E _ _ _ (loop_wp (F := F) Variants.none c none E 128 h_S128x128 shapeCasts_S128x128_S128x128 arg1 arg3 arg11 harg11 (k0_t1_ok i h)
      k0_off23 k0_off24 (fun k => k0_off23_inb i k h) (fun k => k0_off24_inb i k h) (fun k => k0_off24_packedbf16 i k h) X1 X3 (by decide) 11
      (fun k => (off_eq _ _ rfl k).1) (fun k => (off_eq _ _ rfl k).2) (by intro r h1 h2; omega)) ?_
    refine seq_wp (F := F) Variants.none c none E _ _ _ (loop_wp (F := F) Variants.none c none E 128 h_S128x128 shapeCasts_S128x128_S128x128 arg1 arg3 arg11 harg11 (k0_t1_ok i h)
      k0_off25 k0_off26 (fun k => k0_off25_inb i k h) (fun k => k0_off26_inb i k h) (fun k => k0_off26_packedbf16 i k h) X1 X3 (by decide) 12
      (fun k => (off_eq _ _ rfl k).1) (fun k => (off_eq _ _ rfl k).2) (by intro r h1 h2; omega)) ?_
    refine seq_wp (F := F) Variants.none c none E _ _ _ (loop_wp (F := F) Variants.none c none E 128 h_S128x128 shapeCasts_S128x128_S128x128 arg1 arg3 arg11 harg11 (k0_t1_ok i h)
      k0_off27 k0_off28 (fun k => k0_off27_inb i k h) (fun k => k0_off28_inb i k h) (fun k => k0_off28_packedbf16 i k h) X1 X3 (by decide) 13
      (fun k => (off_eq _ _ rfl k).1) (fun k => (off_eq _ _ rfl k).2) (by intro r h1 h2; omega)) ?_
    refine seq_wp (F := F) Variants.none c none E _ _ _ (loop_wp (F := F) Variants.none c none E 128 h_S128x128 shapeCasts_S128x128_S128x128 arg1 arg3 arg11 harg11 (k0_t1_ok i h)
      k0_off29 k0_off30 (fun k => k0_off29_inb i k h) (fun k => k0_off30_inb i k h) (fun k => k0_off30_packedbf16 i k h) X1 X3 (by decide) 14
      (fun k => (off_eq _ _ rfl k).1) (fun k => (off_eq _ _ rfl k).2) (by intro r h1 h2; omega)) ?_
    refine seq_wp (F := F) Variants.none c none E _ _ _ (loop_wp (F := F) Variants.none c none E 128 h_S128x128 shapeCasts_S128x128_S128x128 arg1 arg3 arg11 harg11 (k0_t1_ok i h)
      k0_off31 k0_off32 (fun k => k0_off31_inb i k h) (fun k => k0_off32_inb i k h) (fun k => k0_off32_packedbf16 i k h) X1 X3 (by decide) 15
      (fun k => (off_eq _ _ rfl k).1) (fun k => (off_eq _ _ rfl k).2) (by intro r h1 h2; omega)) ?_
    refine seq_wp (F := F) Variants.none c none E _ _ _ (loop_wp (F := F) Variants.none c none E 64 h_S64x128 shapeCasts_S64x128_S64x128 arg1 arg3 arg11 harg11 (k0_t1_ok i h)
      k0_off33 k0_off34 (fun k => k0_off33_inb i k h) (fun k => k0_off34_inb i k h) (fun k => k0_off34_packedbf16 i k h) X1 X3 (by decide) 16
      (fun k => (off_eq _ _ rfl k).1) (fun k => (off_eq _ _ rfl k).2) (by intro r h1 h2; omega)) ?_
    iintro ⟨H1, H3, ⟨%f', H11, %hf'⟩⟩
    sl_step
    isplitl [H1]; · iexact H1
    isplitl [H3]; · iexact H3
    iexists f'; isplitl [H11]; · iexact H11
    ipureintro
    funext y
    have hy : (y 0).val < 2112 := (y 0).isLt
    exact hf' y (by omega)
  · rw [dif_neg h]
    iintro ⟨H1, H3, H11⟩
    sl_step
    isplitl [H1]; · iexact H1
    isplitl [H3]; · iexact H3
    iexists f; isplitl [H11]; · iexact H11
    ipureintro
    exact hf.resolve_left h

end Head

end Cert.KernelIdeal.Hand
-- ==== Proof.Run.lean ====
module

public import proofs.«01_k».proof.Proof.Dequant
public import proofs.«01_k».proof.Proof.Gen.KernelIdeal.Frame

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄G" => MT nD τ sig Unit (Elt F) ℕ (UR sig nD τ) ℕ

set_option maxHeartbeats 4000000 in
/-- What the body's stores leave in the five outputs, as pieces (last first), with the proof that the body, its
    inputs held at their contents and the weight scratch at anything where the body fills it, at the dequantised
    weight where it does not, runs to the continuation holding the inputs as they were, each output with its
    pieces written and the weight scratch at the dequantised weight. -/
def kernelRun (c : Dev nD) (i : grid0.Coords) (arg1 : Memref sig .tc .smem S17x40 .f32) (harg1 : arg1.IsWhole) (arg2 : Memref sig .tc .vmem S256x5120 .bf16) (harg2 : arg2.IsWhole) (arg3 : Memref sig .tc .vmem S2112x5120 .fp8e4m3) (harg3 : arg3.IsWhole) (arg4 : Memref sig .tc .vmem S1x1536 .bf16) (harg4 : arg4.IsWhole) (arg5 : Memref sig .tc .vmem S1x512 .bf16) (harg5 : arg5.IsWhole) (arg6 : Memref sig .tc .vmem S256x1536 .bf16) (harg6 : arg6.IsWhole) (arg7 : Memref sig .tc .vmem S256x512 .bf16) (harg7 : arg7.IsWhole) (arg8 : Memref sig .tc .vmem S256x64 .bf16) (harg8 : arg8.IsWhole) (arg9 : Memref sig .tc .vmem S256x5120 .fp8e4m3) (harg9 : arg9.IsWhole) (arg10 : Memref sig .tc .vmem S256x40 .f32) (harg10 : arg10.IsWhole) (arg11 : Memref sig .tc .vmem S2112x5120 .bf16) (harg11 : arg11.IsWhole) (arg12 : Memref sig .tc .vmem S256x5120 .bf16) (harg12 : arg12.IsWhole) (arg13 : Memref sig .tc .vmem S256x2048 .f32) (harg13 : arg13.IsWhole)
    (x0 : Vec F S17x40 .f32) (x1 : Vec F S256x5120 .bf16) (x2 : Vec F S2112x5120 .fp8e4m3) (x3 : Vec F S1x1536 .bf16) (x4 : Vec F S1x512 .bf16) :
    { L : List (View.Piece (Elt F) S256x1536 .bf16) × List (View.Piece (Elt F) S256x512 .bf16) × List (View.Piece (Elt F) S256x64 .bf16)
        × List (View.Piece (Elt F) S256x5120 .fp8e4m3) × List (View.Piece (Elt F) S256x40 .f32) //
      ∀ (xs : Vec F S2112x5120 .bf16) (hxs : k0_cond1 i = 1#1 ∨ xs = WB x0 x2) (E : Set ℕ) (K : PUnit → sProp 𝕄G),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xs ∗ (∃ d, owns (c : Thread nD τ) arg12 fullShare d) ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L.1) ∗ (∃ f, arg7.view.loc (c : Thread nD τ) ↦[arg7.view.set]{fullShare} arg7.view.writes (Elt F) f L.2.1) ∗ (∃ f, arg8.view.loc (c : Thread nD τ) ↦[arg8.view.set]{fullShare} arg8.view.writes (Elt F) f L.2.2.1) ∗ (∃ f, arg9.view.loc (c : Thread nD τ) ↦[arg9.view.set]{fullShare} arg9.view.writes (Elt F) f L.2.2.2.1) ∗ (∃ f, arg10.view.loc (c : Thread nD τ) ↦[arg10.view.set]{fullShare} arg10.view.writes (Elt F) f L.2.2.2.2) ∗ owns (c : Thread nD τ) arg11 fullShare (WB x0 x2) ∗ (∃ d, owns (c : Thread nD τ) arg12 fullShare d) ∗ (∃ d, owns (c : Thread nD τ) arg13 fullShare d)) -∗ K ⟨⟩))
          ⊢ wp frame (wpE (defs₀ (F := F)) Variants.none c none) E (cc0_mla_down i arg1 harg1 arg2 harg2 arg3 harg3 arg4 harg4 arg5 harg5 arg6 harg6 arg7 harg7 arg8 harg8 arg9 harg9 arg10 harg10 arg11 harg11 arg12 harg12 arg13 harg13) K } := by
  refine ⟨⟨?_, ?_, ?_, ?_, ?_⟩, fun xs hxs E K => ?run⟩
  case run =>
    simp only [cc0_mla_down_eq_skeleton]; unfold cc0_mla_down_skel
    simp only [k0_part82_eq_skeleton]; unfold k0_part82_skel
    simp only [part2_eq, bind_assoc]
    simp only [k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%fs0, %hfs0, HS0⟩, ⟨%ds1, %fs1, -, HS1⟩, ⟨%ds2, %fs2, -, HS2⟩, Hk⟩
    rw [wp_bind]
    iapply (wp_wand_r Idealize.ShloMosaic.frame (wpE (defs₀ (F := F)) Variants.none (c : Thread nD τ) none) E)
    isplitl [H0 H2 HS0]
    · iapply (headProg_wp (F := F) i arg1 harg1 arg2 harg2 arg3 harg3 arg4 harg4 arg5 harg5 arg6 harg6 arg7 harg7 arg8 harg8 arg9 harg9 arg10 harg10 arg11 harg11 arg12 harg12 arg13 harg13 c E f0 f2 fs0 (by rw [hfs0, hf0, hf2]; exact hxs))
      isplitl [H0]; · iexact H0
      isplitl [H2]; · iexact H2
      iexact HS0
    iintro %_ ⟨H0, H2, ⟨%g, HS0, %hg⟩⟩
    rw [hf0, hf2] at hg
    obtain rfl := harg1.eq_unread hf0; obtain rfl := harg2.eq_unread hf1; obtain rfl := harg3.eq_unread hf2; obtain rfl := harg4.eq_unread hf3; obtain rfl := harg5.eq_unread hf4; obtain rfl := harg11.eq_unread hg
    unfold part2Tail
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; iexact H5
    isplitl [H6]
    · iexists _; iexact H6
    isplitl [H7]
    · iexists _; iexact H7
    isplitl [H8]
    · iexists _; iexact H8
    isplitl [H9]
    · iexists _; iexact H9
    isplitl [HS0]
    · iexists _; isplitr; · ipureintro; exact harg11.read_unread _
      iexact HS0
    isplitl [HS1]
    · iexists _, _; isplitr; swap; · iexact HS1
      ipureintro; rfl
    iexists _, _; isplitr; swap; · iexact HS2
    ipureintro; rfl

end Cert.KernelIdeal.Hand
-- ==== Proof.Block.lean ====
module

public import proofs.«01_k».proof.Proof.Run

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄G" => MT nD τ sig Unit (Elt F) ℕ (UR sig nD τ) ℕ

/-! ## The quantiser of one block of 128 columns, as the body spells it -/

/-- A constant bfloat16 block. -/
def bcst (w : BitVec 16) : FVec F S256x128 .bf16 := broadcast S256x128 (Scalar.ofBits .bf16 w)

/-- The absolute maximum of each row of the block, at every column. -/
def blkMax (x : Vec F S256x128 .bf16) : FVec F S256x128 .bf16 :=
  broadcastTo S256x128 (shapeCast S256x1 (shapeCast S256x1 (multiReduction .maximumf [1] S256 (absf (shapeCast S256x128 x shapeCasts_S256x128_S256x128 : FVec F S256x128 .bf16)) 0xFF80#16 reduces_S256x128_S256 (.inr rfl) rfl : FVec F S256 .bf16) shapeCasts_S256_S256x1) shapeCasts_S256x1_S256x1) broadcasts_S256x1_S256x128

/-- The absolute maximum, at most the largest finite bfloat16. -/
def blkA (x : Vec F S256x128 .bf16) : FVec F S256x128 .bf16 :=
  select (cmpf .olt (blkMax x) (bcst 0x7F7F#16)) (blkMax x) (bcst 0x7F7F#16)

/-- One step of the search for the exponent: the scale goes up by `w` where the maximum is still at least 224 of it. -/
def blkStep (w : BitVec 16) (a e : FVec F S256x128 .bf16) : FVec F S256x128 .bf16 :=
  select (cmpf .oge a (mulf (mulf e (bcst w)) (bcst 0x4360#16))) (mulf e (bcst w)) e

/-- The search: from `2^3` or `2^-125` in steps of 64, 32, 16, 8, 4, 2, 1 binary places. -/
def blkExp (a : FVec F S256x128 .bf16) : FVec F S256x128 .bf16 :=
  blkStep 0x4000#16 a (blkStep 0x4080#16 a (blkStep 0x4180#16 a (blkStep 0x4380#16 a (blkStep 0x4780#16 a (blkStep 0x4F80#16 a (blkStep 0x5F80#16 a
    (select (cmpf .oge a (bcst 0x44E0#16)) (bcst 0x4100#16) (bcst 0x0100#16))))))))

/-- The scale of each row of the block: 1 where the maximum is tiny. -/
def blkScale (x : Vec F S256x128 .bf16) : FVec F S256x128 .bf16 :=
  select (cmpf .olt (blkA x) (bcst 0x04E0#16)) (bcst 0x3F80#16) (blkExp (blkA x))

/-- The reciprocal of the scale. -/
def blkInv (x : Vec F S256x128 .bf16) : FVec F S256x128 .bf16 :=
  select (cmpf .olt (blkA x) (bcst 0x04E0#16)) (bcst 0x3F80#16) (divf (bcst 0x3F80#16) (blkExp (blkA x)))

/-- The codes of the block. -/
def blkCodes (x : Vec F S256x128 .bf16) : FVec F S256x128 .fp8e4m3 :=
  truncf .fp8e4m3 (minimumf (broadcast S256x128 (Scalar.truncf .bf16 bitsLt_bf16_f32 (Scalar.ofBits .f32 0x43E00000#32)))
    (maximumf (broadcast S256x128 (Scalar.truncf .bf16 bitsLt_bf16_f32 (Scalar.ofBits .f32 0xC3E00000#32)))
      (mulf (shapeCast S256x128 x shapeCasts_S256x128_S256x128 : FVec F S256x128 .bf16) (blkInv x)))) bitsLt_fp8e4m3_bf16

/-- The block the body multiplies with: the codes at their scale. -/
def blkXb (x : Vec F S256x128 .bf16) : FVec F S256x128 .bf16 :=
  shapeCast S256x128 (mulf (extf .bf16 (blkCodes x) bitsLt_fp8e4m3_bf16) (blkScale x)) shapeCasts_S256x128_S256x128

/-! ## The pieces of the codes and of the block scratch are the blocks of one array -/

/-- An index of the row block inside its block of 128 columns. -/
def inBlk (y : S256x5120.Idx) : S256x128.Idx := fun a => match a with
  | ⟨0, _⟩ => ⟨(y 0).val, (y 0).isLt⟩
  | ⟨1, _⟩ => ⟨(y 1).val % 128, Nat.mod_lt _ (by decide)⟩

/-- The 128 columns from `o` on lie inside. -/
theorem blk_inb (o : ℕ) (h : o + 128 ≤ 5120) : ∀ a, (![0, o] : Fin 2 → Nat) a + S256x128.size a ≤ S256x5120.size a :=
  Rect.inb₂ (d := ![256, 5120]) (off := ![0, o]) (size := ![256, 128]) (Nat.le_refl 256) h

/-- The 128 columns from `o` on. -/
def colBlk (x1 : Vec F S256x5120 .bf16) (o : ℕ) (h : o + 128 ≤ 5120) : Vec F S256x128 .bf16 :=
  View.ld x1 (Rect.unit ![0, o] S256x128.size (blk_inb o h))

theorem blk_le (y : S256x5120.Idx) : (y 1).val / 128 * 128 + 128 ≤ 5120 := by
  have h : (y 1).val < 5120 := (y 1).isLt
  omega

/-- A function of a block of 128 columns, at every block. -/
def onBlk {e : EltTy} (f : Vec F S256x128 .bf16 → Vec F S256x128 e) (x1 : Vec F S256x5120 .bf16) : Vec F S256x5120 e := fun y =>
  f (colBlk x1 ((y 1).val / 128 * 128) (blk_le y)) (inBlk y)

theorem colBlk_congr (x1 : Vec F S256x5120 .bf16) {o o' : ℕ} (h : o + 128 ≤ 5120) (h' : o' + 128 ≤ 5120) (e : o = o') :
    colBlk x1 o h = colBlk x1 o' h' := by subst e; rfl

/-- `onBlk` at an index of the block from `o` on. -/
theorem onBlk_apply {e : EltTy} (f : Vec F S256x128 .bf16 → Vec F S256x128 e) (x1 : Vec F S256x5120 .bf16) (o : ℕ) (h : o + 128 ≤ 5120)
    (ho : o % 128 = 0) (y : S256x5120.Idx) (x : S256x128.Idx) (h0 : (y 0).val = (x 0).val) (h1 : (y 1).val = o + (x 1).val) :
    onBlk f x1 y = f (colBlk x1 o h) x := by
  have hx : (x 1).val < 128 := (x 1).isLt
  unfold onBlk
  rw [colBlk_congr x1 (blk_le y) h (by omega)]
  refine congrArg _ (funext fun a => Fin.ext ?_)
  match a with
  | ⟨0, _⟩ => exact h0
  | ⟨1, _⟩ => show (y 1).val % 128 = (x 1).val; omega

/-- A piece that stores a function of the 128 columns it stores into is a block of that function at every block. -/
theorem blk_piece {e : EltTy} (f : Vec F S256x128 .bf16 → Vec F S256x128 e) (arg2 : Memref sig .tc .vmem S256x5120 .bf16) (harg2 : arg2.IsWhole)
    (x1 : Vec F S256x5120 .bf16) (o : ℕ) (h : ∀ a, (![0, o] : Fin 2 → Nat) a + S256x128.size a ≤ S256x5120.size a) (ho : o % 128 = 0) (p : Vec F S256x128 e)
    (hp : p = f (View.readAt (Elt F) arg2.view (Rect.unit (s := S256x5120) ![0, o] S256x128.size h).toLoadRect (harg2.unread x1)))
    (x : S256x128.Idx) : p x = onBlk f x1 ((Rect.unit (s := S256x5120) ![0, o] S256x128.size h).emb x) := by
  rw [View.readAt_eq_ld, harg2.read_unread] at hp
  rw [hp, onBlk_apply f x1 o (h 1) ho _ x (by show 0 + 1 * (x 0).val = _; omega) (by show o + 1 * (x 1).val = _; omega)]
  rfl

/-- Pieces that store a function of the columns they store into, one more. -/
theorem blk_cons {e : EltTy} (f : Vec F S256x128 .bf16 → Vec F S256x128 e) (arg2 : Memref sig .tc .vmem S256x5120 .bf16) (harg2 : arg2.IsWhole)
    (x1 : Vec F S256x5120 .bf16) (o : ℕ) (h : ∀ a, (![0, o] : Fin 2 → Nat) a + S256x128.size a ≤ S256x5120.size a) (p : Vec F S256x128 e)
    (L : List (View.Piece (Elt F) S256x5120 e)) (ho : o % 128 = 0)
    (hp : p = f (View.readAt (Elt F) arg2.view (Rect.unit (s := S256x5120) ![0, o] S256x128.size h).toLoadRect (harg2.unread x1)))
    (hL : View.PiecesOf (onBlk f x1) L) :
    View.PiecesOf (onBlk f x1) (⟨Rect.unit (s := S256x5120) ![0, o] S256x128.size h, p⟩ :: L) :=
  ⟨blk_piece f arg2 harg2 x1 o h ho p hp, hL⟩

/-- The pieces the body stores into the codes are the blocks of the codes of its rows. -/
theorem codes_pieces (c : Dev nD) (i : grid0.Coords) (arg1 : Memref sig .tc .smem S17x40 .f32) (harg1 : arg1.IsWhole) (arg2 : Memref sig .tc .vmem S256x5120 .bf16) (harg2 : arg2.IsWhole) (arg3 : Memref sig .tc .vmem S2112x5120 .fp8e4m3) (harg3 : arg3.IsWhole) (arg4 : Memref sig .tc .vmem S1x1536 .bf16) (harg4 : arg4.IsWhole) (arg5 : Memref sig .tc .vmem S1x512 .bf16) (harg5 : arg5.IsWhole) (arg6 : Memref sig .tc .vmem S256x1536 .bf16) (harg6 : arg6.IsWhole) (arg7 : Memref sig .tc .vmem S256x512 .bf16) (harg7 : arg7.IsWhole) (arg8 : Memref sig .tc .vmem S256x64 .bf16) (harg8 : arg8.IsWhole) (arg9 : Memref sig .tc .vmem S256x5120 .fp8e4m3) (harg9 : arg9.IsWhole) (arg10 : Memref sig .tc .vmem S256x40 .f32) (harg10 : arg10.IsWhole) (arg11 : Memref sig .tc .vmem S2112x5120 .bf16) (harg11 : arg11.IsWhole) (arg12 : Memref sig .tc .vmem S256x5120 .bf16) (harg12 : arg12.IsWhole) (arg13 : Memref sig .tc .vmem S256x2048 .f32) (harg13 : arg13.IsWhole) (x0 : Vec F S17x40 .f32) (x1 : Vec F S256x5120 .bf16) (x2 : Vec F S2112x5120 .fp8e4m3) (x3 : Vec F S1x1536 .bf16) (x4 : Vec F S1x512 .bf16) :
    View.PiecesOf (onBlk blkCodes x1) (kernelRun c i arg1 harg1 arg2 harg2 arg3 harg3 arg4 harg4 arg5 harg5 arg6 harg6 arg7 harg7 arg8 harg8 arg9 harg9 arg10 harg10 arg11 harg11 arg12 harg12 arg13 harg13 x0 x1 x2 x3 x4).1.2.2.2.1 := by
  unfold kernelRun; dsimp only
  iterate 40 (refine blk_cons (F := F) (e := .fp8e4m3) blkCodes arg2 harg2 x1 _ _ _ _ ?_ rfl ?_; decide)
  exact trivial

/-- The pieces the body stores into the block scratch are the blocks of the codes at their scale. -/
theorem xb_pieces (c : Dev nD) (arg2 : Memref sig .tc .vmem S256x5120 .bf16) (harg2 : arg2.IsWhole) (x1 : Vec F S256x5120 .bf16) :
    View.PiecesOf (onBlk blkXb x1) (kernelRun.sl.HS1_40 c arg2 harg2 x1) := by
  unfold kernelRun.sl.HS1_40
  iterate 40 (refine blk_cons (F := F) (e := .bf16) blkXb arg2 harg2 x1 _ _ _ _ ?_ rfl ?_; decide)
  exact trivial

end Cert.KernelIdeal.Hand
-- ==== Proof.Data.lean ====
module

public import proofs.«01_k».proof.Proof.Run
public import Idealize.ShloMosaic.Lib.Claim

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F]

local notation "𝕄G" => MT nD τ sig Unit (Elt F) ℕ (UR sig nD τ) ℕ

variable (m : (ℓ : Loc nD τ sig) → Buf (Elt F) ℓ) (ρ : Dev nD → PrngReg)

/-! ## What the stores of the body cover -/

/-- The pieces the body stores into output window 5 tile it. -/
theorem cover_5 (c : Dev nD) (i : grid0.Coords) (arg1 : Memref sig .tc .smem S17x40 .f32) (harg1 : arg1.IsWhole) (arg2 : Memref sig .tc .vmem S256x5120 .bf16) (harg2 : arg2.IsWhole) (arg3 : Memref sig .tc .vmem S2112x5120 .fp8e4m3) (harg3 : arg3.IsWhole) (arg4 : Memref sig .tc .vmem S1x1536 .bf16) (harg4 : arg4.IsWhole) (arg5 : Memref sig .tc .vmem S1x512 .bf16) (harg5 : arg5.IsWhole) (arg6 : Memref sig .tc .vmem S256x1536 .bf16) (harg6 : arg6.IsWhole) (arg7 : Memref sig .tc .vmem S256x512 .bf16) (harg7 : arg7.IsWhole) (arg8 : Memref sig .tc .vmem S256x64 .bf16) (harg8 : arg8.IsWhole) (arg9 : Memref sig .tc .vmem S256x5120 .fp8e4m3) (harg9 : arg9.IsWhole) (arg10 : Memref sig .tc .vmem S256x40 .f32) (harg10 : arg10.IsWhole) (arg11 : Memref sig .tc .vmem S2112x5120 .bf16) (harg11 : arg11.IsWhole) (arg12 : Memref sig .tc .vmem S256x5120 .bf16) (harg12 : arg12.IsWhole) (arg13 : Memref sig .tc .vmem S256x2048 .f32) (harg13 : arg13.IsWhole) (x0 : Vec F S17x40 .f32) (x1 : Vec F S256x5120 .bf16) (x2 : Vec F S2112x5120 .fp8e4m3) (x3 : Vec F S1x1536 .bf16) (x4 : Vec F S1x512 .bf16) (y : S256x1536.Idx) :
    ∃ pc ∈ (kernelRun c i arg1 harg1 arg2 harg2 arg3 harg3 arg4 harg4 arg5 harg5 arg6 harg6 arg7 harg7 arg8 harg8 arg9 harg9 arg10 harg10 arg11 harg11 arg12 harg12 arg13 harg13 x0 x1 x2 x3 x4).1.1, y ∈ pc.1.set :=
  View.cover_of_tiledBy (kernelRun c i arg1 harg1 arg2 harg2 arg3 harg3 arg4 harg4 arg5 harg5 arg6 harg6 arg7 harg7 arg8 harg8 arg9 harg9 arg10 harg10 arg11 harg11 arg12 harg12 arg13 harg13 x0 x1 x2 x3 x4).1.1 ![256, 1536] (by sl_kernel_rfl) y

/-- The pieces the body stores into output window 6 tile it. -/
theorem cover_6 (c : Dev nD) (i : grid0.Coords) (arg1 : Memref sig .tc .smem S17x40 .f32) (harg1 : arg1.IsWhole) (arg2 : Memref sig .tc .vmem S256x5120 .bf16) (harg2 : arg2.IsWhole) (arg3 : Memref sig .tc .vmem S2112x5120 .fp8e4m3) (harg3 : arg3.IsWhole) (arg4 : Memref sig .tc .vmem S1x1536 .bf16) (harg4 : arg4.IsWhole) (arg5 : Memref sig .tc .vmem S1x512 .bf16) (harg5 : arg5.IsWhole) (arg6 : Memref sig .tc .vmem S256x1536 .bf16) (harg6 : arg6.IsWhole) (arg7 : Memref sig .tc .vmem S256x512 .bf16) (harg7 : arg7.IsWhole) (arg8 : Memref sig .tc .vmem S256x64 .bf16) (harg8 : arg8.IsWhole) (arg9 : Memref sig .tc .vmem S256x5120 .fp8e4m3) (harg9 : arg9.IsWhole) (arg10 : Memref sig .tc .vmem S256x40 .f32) (harg10 : arg10.IsWhole) (arg11 : Memref sig .tc .vmem S2112x5120 .bf16) (harg11 : arg11.IsWhole) (arg12 : Memref sig .tc .vmem S256x5120 .bf16) (harg12 : arg12.IsWhole) (arg13 : Memref sig .tc .vmem S256x2048 .f32) (harg13 : arg13.IsWhole) (x0 : Vec F S17x40 .f32) (x1 : Vec F S256x5120 .bf16) (x2 : Vec F S2112x5120 .fp8e4m3) (x3 : Vec F S1x1536 .bf16) (x4 : Vec F S1x512 .bf16) (y : S256x512.Idx) :
    ∃ pc ∈ (kernelRun c i arg1 harg1 arg2 harg2 arg3 harg3 arg4 harg4 arg5 harg5 arg6 harg6 arg7 harg7 arg8 harg8 arg9 harg9 arg10 harg10 arg11 harg11 arg12 harg12 arg13 harg13 x0 x1 x2 x3 x4).1.2.1, y ∈ pc.1.set :=
  View.cover_of_tiledBy (kernelRun c i arg1 harg1 arg2 harg2 arg3 harg3 arg4 harg4 arg5 harg5 arg6 harg6 arg7 harg7 arg8 harg8 arg9 harg9 arg10 harg10 arg11 harg11 arg12 harg12 arg13 harg13 x0 x1 x2 x3 x4).1.2.1 ![256, 512] (by sl_kernel_rfl) y

/-- The pieces the body stores into output window 7 tile it. -/
theorem cover_7 (c : Dev nD) (i : grid0.Coords) (arg1 : Memref sig .tc .smem S17x40 .f32) (harg1 : arg1.IsWhole) (arg2 : Memref sig .tc .vmem S256x5120 .bf16) (harg2 : arg2.IsWhole) (arg3 : Memref sig .tc .vmem S2112x5120 .fp8e4m3) (harg3 : arg3.IsWhole) (arg4 : Memref sig .tc .vmem S1x1536 .bf16) (harg4 : arg4.IsWhole) (arg5 : Memref sig .tc .vmem S1x512 .bf16) (harg5 : arg5.IsWhole) (arg6 : Memref sig .tc .vmem S256x1536 .bf16) (harg6 : arg6.IsWhole) (arg7 : Memref sig .tc .vmem S256x512 .bf16) (harg7 : arg7.IsWhole) (arg8 : Memref sig .tc .vmem S256x64 .bf16) (harg8 : arg8.IsWhole) (arg9 : Memref sig .tc .vmem S256x5120 .fp8e4m3) (harg9 : arg9.IsWhole) (arg10 : Memref sig .tc .vmem S256x40 .f32) (harg10 : arg10.IsWhole) (arg11 : Memref sig .tc .vmem S2112x5120 .bf16) (harg11 : arg11.IsWhole) (arg12 : Memref sig .tc .vmem S256x5120 .bf16) (harg12 : arg12.IsWhole) (arg13 : Memref sig .tc .vmem S256x2048 .f32) (harg13 : arg13.IsWhole) (x0 : Vec F S17x40 .f32) (x1 : Vec F S256x5120 .bf16) (x2 : Vec F S2112x5120 .fp8e4m3) (x3 : Vec F S1x1536 .bf16) (x4 : Vec F S1x512 .bf16) (y : S256x64.Idx) :
    ∃ pc ∈ (kernelRun c i arg1 harg1 arg2 harg2 arg3 harg3 arg4 harg4 arg5 harg5 arg6 harg6 arg7 harg7 arg8 harg8 arg9 harg9 arg10 harg10 arg11 harg11 arg12 harg12 arg13 harg13 x0 x1 x2 x3 x4).1.2.2.1, y ∈ pc.1.set :=
  View.cover_of_tiledBy (kernelRun c i arg1 harg1 arg2 harg2 arg3 harg3 arg4 harg4 arg5 harg5 arg6 harg6 arg7 harg7 arg8 harg8 arg9 harg9 arg10 harg10 arg11 harg11 arg12 harg12 arg13 harg13 x0 x1 x2 x3 x4).1.2.2.1 ![256, 64] (by sl_kernel_rfl) y

/-- The pieces the body stores into output window 8 tile it. -/
theorem cover_8 (c : Dev nD) (i : grid0.Coords) (arg1 : Memref sig .tc .smem S17x40 .f32) (harg1 : arg1.IsWhole) (arg2 : Memref sig .tc .vmem S256x5120 .bf16) (harg2 : arg2.IsWhole) (arg3 : Memref sig .tc .vmem S2112x5120 .fp8e4m3) (harg3 : arg3.IsWhole) (arg4 : Memref sig .tc .vmem S1x1536 .bf16) (harg4 : arg4.IsWhole) (arg5 : Memref sig .tc .vmem S1x512 .bf16) (harg5 : arg5.IsWhole) (arg6 : Memref sig .tc .vmem S256x1536 .bf16) (harg6 : arg6.IsWhole) (arg7 : Memref sig .tc .vmem S256x512 .bf16) (harg7 : arg7.IsWhole) (arg8 : Memref sig .tc .vmem S256x64 .bf16) (harg8 : arg8.IsWhole) (arg9 : Memref sig .tc .vmem S256x5120 .fp8e4m3) (harg9 : arg9.IsWhole) (arg10 : Memref sig .tc .vmem S256x40 .f32) (harg10 : arg10.IsWhole) (arg11 : Memref sig .tc .vmem S2112x5120 .bf16) (harg11 : arg11.IsWhole) (arg12 : Memref sig .tc .vmem S256x5120 .bf16) (harg12 : arg12.IsWhole) (arg13 : Memref sig .tc .vmem S256x2048 .f32) (harg13 : arg13.IsWhole) (x0 : Vec F S17x40 .f32) (x1 : Vec F S256x5120 .bf16) (x2 : Vec F S2112x5120 .fp8e4m3) (x3 : Vec F S1x1536 .bf16) (x4 : Vec F S1x512 .bf16) (y : S256x5120.Idx) :
    ∃ pc ∈ (kernelRun c i arg1 harg1 arg2 harg2 arg3 harg3 arg4 harg4 arg5 harg5 arg6 harg6 arg7 harg7 arg8 harg8 arg9 harg9 arg10 harg10 arg11 harg11 arg12 harg12 arg13 harg13 x0 x1 x2 x3 x4).1.2.2.2.1, y ∈ pc.1.set :=
  View.cover_of_tiledBy (kernelRun c i arg1 harg1 arg2 harg2 arg3 harg3 arg4 harg4 arg5 harg5 arg6 harg6 arg7 harg7 arg8 harg8 arg9 harg9 arg10 harg10 arg11 harg11 arg12 harg12 arg13 harg13 x0 x1 x2 x3 x4).1.2.2.2.1 ![256, 128] (by sl_kernel_rfl) y

/-- The pieces the body stores into output window 9 tile it. -/
theorem cover_9 (c : Dev nD) (i : grid0.Coords) (arg1 : Memref sig .tc .smem S17x40 .f32) (harg1 : arg1.IsWhole) (arg2 : Memref sig .tc .vmem S256x5120 .bf16) (harg2 : arg2.IsWhole) (arg3 : Memref sig .tc .vmem S2112x5120 .fp8e4m3) (harg3 : arg3.IsWhole) (arg4 : Memref sig .tc .vmem S1x1536 .bf16) (harg4 : arg4.IsWhole) (arg5 : Memref sig .tc .vmem S1x512 .bf16) (harg5 : arg5.IsWhole) (arg6 : Memref sig .tc .vmem S256x1536 .bf16) (harg6 : arg6.IsWhole) (arg7 : Memref sig .tc .vmem S256x512 .bf16) (harg7 : arg7.IsWhole) (arg8 : Memref sig .tc .vmem S256x64 .bf16) (harg8 : arg8.IsWhole) (arg9 : Memref sig .tc .vmem S256x5120 .fp8e4m3) (harg9 : arg9.IsWhole) (arg10 : Memref sig .tc .vmem S256x40 .f32) (harg10 : arg10.IsWhole) (arg11 : Memref sig .tc .vmem S2112x5120 .bf16) (harg11 : arg11.IsWhole) (arg12 : Memref sig .tc .vmem S256x5120 .bf16) (harg12 : arg12.IsWhole) (arg13 : Memref sig .tc .vmem S256x2048 .f32) (harg13 : arg13.IsWhole) (x0 : Vec F S17x40 .f32) (x1 : Vec F S256x5120 .bf16) (x2 : Vec F S2112x5120 .fp8e4m3) (x3 : Vec F S1x1536 .bf16) (x4 : Vec F S1x512 .bf16) (y : S256x40.Idx) :
    ∃ pc ∈ (kernelRun c i arg1 harg1 arg2 harg2 arg3 harg3 arg4 harg4 arg5 harg5 arg6 harg6 arg7 harg7 arg8 harg8 arg9 harg9 arg10 harg10 arg11 harg11 arg12 harg12 arg13 harg13 x0 x1 x2 x3 x4).1.2.2.2.2, y ∈ pc.1.set :=
  View.cover_of_tiledBy (kernelRun c i arg1 harg1 arg2 harg2 arg3 harg3 arg4 harg4 arg5 harg5 arg6 harg6 arg7 harg7 arg8 harg8 arg9 harg9 arg10 harg10 arg11 harg11 arg12 harg12 arg13 harg13 x0 x1 x2 x3 x4).1.2.2.2.2 ![256, 40] (by sl_kernel_rfl) y

/-- What the body leaves in output window 5's buffer, from the blocks of its inputs. -/
def out_5 (c : Dev nD) (i : grid0.Coords) (arg1 : Memref sig .tc .smem S17x40 .f32) (harg1 : arg1.IsWhole) (arg2 : Memref sig .tc .vmem S256x5120 .bf16) (harg2 : arg2.IsWhole) (arg3 : Memref sig .tc .vmem S2112x5120 .fp8e4m3) (harg3 : arg3.IsWhole) (arg4 : Memref sig .tc .vmem S1x1536 .bf16) (harg4 : arg4.IsWhole) (arg5 : Memref sig .tc .vmem S1x512 .bf16) (harg5 : arg5.IsWhole) (arg6 : Memref sig .tc .vmem S256x1536 .bf16) (harg6 : arg6.IsWhole) (arg7 : Memref sig .tc .vmem S256x512 .bf16) (harg7 : arg7.IsWhole) (arg8 : Memref sig .tc .vmem S256x64 .bf16) (harg8 : arg8.IsWhole) (arg9 : Memref sig .tc .vmem S256x5120 .fp8e4m3) (harg9 : arg9.IsWhole) (arg10 : Memref sig .tc .vmem S256x40 .f32) (harg10 : arg10.IsWhole) (arg11 : Memref sig .tc .vmem S2112x5120 .bf16) (harg11 : arg11.IsWhole) (arg12 : Memref sig .tc .vmem S256x5120 .bf16) (harg12 : arg12.IsWhole) (arg13 : Memref sig .tc .vmem S256x2048 .f32) (harg13 : arg13.IsWhole) (x0 : Vec F S17x40 .f32) (x1 : Vec F S256x5120 .bf16) (x2 : Vec F S2112x5120 .fp8e4m3) (x3 : Vec F S1x1536 .bf16) (x4 : Vec F S1x512 .bf16) : Vec F S256x1536 .bf16 :=
  View.canon (kernelRun c i arg1 harg1 arg2 harg2 arg3 harg3 arg4 harg4 arg5 harg5 arg6 harg6 arg7 harg7 arg8 harg8 arg9 harg9 arg10 harg10 arg11 harg11 arg12 harg12 arg13 harg13 x0 x1 x2 x3 x4).1.1

/-- What the body leaves in output window 6's buffer, from the blocks of its inputs. -/
def out_6 (c : Dev nD) (i : grid0.Coords) (arg1 : Memref sig .tc .smem S17x40 .f32) (harg1 : arg1.IsWhole) (arg2 : Memref sig .tc .vmem S256x5120 .bf16) (harg2 : arg2.IsWhole) (arg3 : Memref sig .tc .vmem S2112x5120 .fp8e4m3) (harg3 : arg3.IsWhole) (arg4 : Memref sig .tc .vmem S1x1536 .bf16) (harg4 : arg4.IsWhole) (arg5 : Memref sig .tc .vmem S1x512 .bf16) (harg5 : arg5.IsWhole) (arg6 : Memref sig .tc .vmem S256x1536 .bf16) (harg6 : arg6.IsWhole) (arg7 : Memref sig .tc .vmem S256x512 .bf16) (harg7 : arg7.IsWhole) (arg8 : Memref sig .tc .vmem S256x64 .bf16) (harg8 : arg8.IsWhole) (arg9 : Memref sig .tc .vmem S256x5120 .fp8e4m3) (harg9 : arg9.IsWhole) (arg10 : Memref sig .tc .vmem S256x40 .f32) (harg10 : arg10.IsWhole) (arg11 : Memref sig .tc .vmem S2112x5120 .bf16) (harg11 : arg11.IsWhole) (arg12 : Memref sig .tc .vmem S256x5120 .bf16) (harg12 : arg12.IsWhole) (arg13 : Memref sig .tc .vmem S256x2048 .f32) (harg13 : arg13.IsWhole) (x0 : Vec F S17x40 .f32) (x1 : Vec F S256x5120 .bf16) (x2 : Vec F S2112x5120 .fp8e4m3) (x3 : Vec F S1x1536 .bf16) (x4 : Vec F S1x512 .bf16) : Vec F S256x512 .bf16 :=
  View.canon (kernelRun c i arg1 harg1 arg2 harg2 arg3 harg3 arg4 harg4 arg5 harg5 arg6 harg6 arg7 harg7 arg8 harg8 arg9 harg9 arg10 harg10 arg11 harg11 arg12 harg12 arg13 harg13 x0 x1 x2 x3 x4).1.2.1

/-- What the body leaves in output window 7's buffer, from the blocks of its inputs. -/
def out_7 (c : Dev nD) (i : grid0.Coords) (arg1 : Memref sig .tc .smem S17x40 .f32) (harg1 : arg1.IsWhole) (arg2 : Memref sig .tc .vmem S256x5120 .bf16) (harg2 : arg2.IsWhole) (arg3 : Memref sig .tc .vmem S2112x5120 .fp8e4m3) (harg3 : arg3.IsWhole) (arg4 : Memref sig .tc .vmem S1x1536 .bf16) (harg4 : arg4.IsWhole) (arg5 : Memref sig .tc .vmem S1x512 .bf16) (harg5 : arg5.IsWhole) (arg6 : Memref sig .tc .vmem S256x1536 .bf16) (harg6 : arg6.IsWhole) (arg7 : Memref sig .tc .vmem S256x512 .bf16) (harg7 : arg7.IsWhole) (arg8 : Memref sig .tc .vmem S256x64 .bf16) (harg8 : arg8.IsWhole) (arg9 : Memref sig .tc .vmem S256x5120 .fp8e4m3) (harg9 : arg9.IsWhole) (arg10 : Memref sig .tc .vmem S256x40 .f32) (harg10 : arg10.IsWhole) (arg11 : Memref sig .tc .vmem S2112x5120 .bf16) (harg11 : arg11.IsWhole) (arg12 : Memref sig .tc .vmem S256x5120 .bf16) (harg12 : arg12.IsWhole) (arg13 : Memref sig .tc .vmem S256x2048 .f32) (harg13 : arg13.IsWhole) (x0 : Vec F S17x40 .f32) (x1 : Vec F S256x5120 .bf16) (x2 : Vec F S2112x5120 .fp8e4m3) (x3 : Vec F S1x1536 .bf16) (x4 : Vec F S1x512 .bf16) : Vec F S256x64 .bf16 :=
  View.canon (kernelRun c i arg1 harg1 arg2 harg2 arg3 harg3 arg4 harg4 arg5 harg5 arg6 harg6 arg7 harg7 arg8 harg8 arg9 harg9 arg10 harg10 arg11 harg11 arg12 harg12 arg13 harg13 x0 x1 x2 x3 x4).1.2.2.1

/-- What the body leaves in output window 8's buffer, from the blocks of its inputs. -/
def out_8 (c : Dev nD) (i : grid0.Coords) (arg1 : Memref sig .tc .smem S17x40 .f32) (harg1 : arg1.IsWhole) (arg2 : Memref sig .tc .vmem S256x5120 .bf16) (harg2 : arg2.IsWhole) (arg3 : Memref sig .tc .vmem S2112x5120 .fp8e4m3) (harg3 : arg3.IsWhole) (arg4 : Memref sig .tc .vmem S1x1536 .bf16) (harg4 : arg4.IsWhole) (arg5 : Memref sig .tc .vmem S1x512 .bf16) (harg5 : arg5.IsWhole) (arg6 : Memref sig .tc .vmem S256x1536 .bf16) (harg6 : arg6.IsWhole) (arg7 : Memref sig .tc .vmem S256x512 .bf16) (harg7 : arg7.IsWhole) (arg8 : Memref sig .tc .vmem S256x64 .bf16) (harg8 : arg8.IsWhole) (arg9 : Memref sig .tc .vmem S256x5120 .fp8e4m3) (harg9 : arg9.IsWhole) (arg10 : Memref sig .tc .vmem S256x40 .f32) (harg10 : arg10.IsWhole) (arg11 : Memref sig .tc .vmem S2112x5120 .bf16) (harg11 : arg11.IsWhole) (arg12 : Memref sig .tc .vmem S256x5120 .bf16) (harg12 : arg12.IsWhole) (arg13 : Memref sig .tc .vmem S256x2048 .f32) (harg13 : arg13.IsWhole) (x0 : Vec F S17x40 .f32) (x1 : Vec F S256x5120 .bf16) (x2 : Vec F S2112x5120 .fp8e4m3) (x3 : Vec F S1x1536 .bf16) (x4 : Vec F S1x512 .bf16) : Vec F S256x5120 .fp8e4m3 :=
  View.canon (kernelRun c i arg1 harg1 arg2 harg2 arg3 harg3 arg4 harg4 arg5 harg5 arg6 harg6 arg7 harg7 arg8 harg8 arg9 harg9 arg10 harg10 arg11 harg11 arg12 harg12 arg13 harg13 x0 x1 x2 x3 x4).1.2.2.2.1

/-- What the body leaves in output window 9's buffer, from the blocks of its inputs. -/
def out_9 (c : Dev nD) (i : grid0.Coords) (arg1 : Memref sig .tc .smem S17x40 .f32) (harg1 : arg1.IsWhole) (arg2 : Memref sig .tc .vmem S256x5120 .bf16) (harg2 : arg2.IsWhole) (arg3 : Memref sig .tc .vmem S2112x5120 .fp8e4m3) (harg3 : arg3.IsWhole) (arg4 : Memref sig .tc .vmem S1x1536 .bf16) (harg4 : arg4.IsWhole) (arg5 : Memref sig .tc .vmem S1x512 .bf16) (harg5 : arg5.IsWhole) (arg6 : Memref sig .tc .vmem S256x1536 .bf16) (harg6 : arg6.IsWhole) (arg7 : Memref sig .tc .vmem S256x512 .bf16) (harg7 : arg7.IsWhole) (arg8 : Memref sig .tc .vmem S256x64 .bf16) (harg8 : arg8.IsWhole) (arg9 : Memref sig .tc .vmem S256x5120 .fp8e4m3) (harg9 : arg9.IsWhole) (arg10 : Memref sig .tc .vmem S256x40 .f32) (harg10 : arg10.IsWhole) (arg11 : Memref sig .tc .vmem S2112x5120 .bf16) (harg11 : arg11.IsWhole) (arg12 : Memref sig .tc .vmem S256x5120 .bf16) (harg12 : arg12.IsWhole) (arg13 : Memref sig .tc .vmem S256x2048 .f32) (harg13 : arg13.IsWhole) (x0 : Vec F S17x40 .f32) (x1 : Vec F S256x5120 .bf16) (x2 : Vec F S2112x5120 .fp8e4m3) (x3 : Vec F S1x1536 .bf16) (x4 : Vec F S1x512 .bf16) : Vec F S256x40 .f32 :=
  View.canon (kernelRun c i arg1 harg1 arg2 harg2 arg3 harg3 arg4 harg4 arg5 harg5 arg6 harg6 arg7 harg7 arg8 harg8 arg9 harg9 arg10 harg10 arg11 harg11 arg12 harg12 arg13 harg13 x0 x1 x2 x3 x4).1.2.2.2.2

/-! ## The memrefs the pipeline passes -/

/-- Each window's current staging memref at point `t`, spelled as the pipeline passes it (`bodyAt0`), and its wholeness. -/
abbrev ms_0 (t : Fin cfg0.N) : Memref sig .tc .smem S17x40 .f32 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S256x5120 .bf16 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S2112x5120 .fp8e4m3 := win0_2.stage (cfg0.slots t 2)
abbrev hs_2 (t : Fin cfg0.N) : (ms_2 t).IsWhole := hstage0_2 ((cfg0.slots t 2).cast nbuf0_2)
abbrev ms_3 (t : Fin cfg0.N) : Memref sig .tc .vmem S1x1536 .bf16 := win0_3.stage (cfg0.slots t 3)
abbrev hs_3 (t : Fin cfg0.N) : (ms_3 t).IsWhole := hstage0_3 ((cfg0.slots t 3).cast nbuf0_3)
abbrev ms_4 (t : Fin cfg0.N) : Memref sig .tc .vmem S1x512 .bf16 := win0_4.stage (cfg0.slots t 4)
abbrev hs_4 (t : Fin cfg0.N) : (ms_4 t).IsWhole := hstage0_4 ((cfg0.slots t 4).cast nbuf0_4)
abbrev ms_5 (t : Fin cfg0.N) : Memref sig .tc .vmem S256x1536 .bf16 := win0_5.stage (cfg0.slots t 5)
abbrev hs_5 (t : Fin cfg0.N) : (ms_5 t).IsWhole := hstage0_5 ((cfg0.slots t 5).cast nbuf0_5)
abbrev ms_6 (t : Fin cfg0.N) : Memref sig .tc .vmem S256x512 .bf16 := win0_6.stage (cfg0.slots t 6)
abbrev hs_6 (t : Fin cfg0.N) : (ms_6 t).IsWhole := hstage0_6 ((cfg0.slots t 6).cast nbuf0_6)
abbrev ms_7 (t : Fin cfg0.N) : Memref sig .tc .vmem S256x64 .bf16 := win0_7.stage (cfg0.slots t 7)
abbrev hs_7 (t : Fin cfg0.N) : (ms_7 t).IsWhole := hstage0_7 ((cfg0.slots t 7).cast nbuf0_7)
abbrev ms_8 (t : Fin cfg0.N) : Memref sig .tc .vmem S256x5120 .fp8e4m3 := win0_8.stage (cfg0.slots t 8)
abbrev hs_8 (t : Fin cfg0.N) : (ms_8 t).IsWhole := hstage0_8 ((cfg0.slots t 8).cast nbuf0_8)
abbrev ms_9 (t : Fin cfg0.N) : Memref sig .tc .vmem S256x40 .f32 := win0_9.stage (cfg0.slots t 9)
abbrev hs_9 (t : Fin cfg0.N) : (ms_9 t).IsWhole := hstage0_9 ((cfg0.slots t 9).cast nbuf0_9)
/-- The scratch operands: whole buffers of the kernel's own, passed beside the windows. -/
abbrev sc_0 : Memref sig .tc .vmem S2112x5120 .bf16 := Memref.whole cc0_scratch0
abbrev sc_1 : Memref sig .tc .vmem S256x5120 .bf16 := Memref.whole cc0_scratch1
abbrev sc_2 : Memref sig .tc .vmem S256x2048 .f32 := Memref.whole cc0_scratch2

/-- The body fills the weight scratch at the first point only. -/
theorem fill_iff : ∀ t : Fin cfg0.N, k0_cond1 (grid0.coords t) = 1#1 ↔ t.val % 16 = 0 :=
  (fun t => by
    have ht : t.val < 16 := Nat.lt_of_lt_of_eq t.isLt N_0
    have e0 : (grid0.coords t 0).val = t.val / 1 % 16 := Pipeline.Grid.coords_val t 0 (by decide) rfl
    simp only [k0_cond1, e0]
    word_cmp
   : ∀ t : Fin grid0.N, k0_cond1 (grid0.coords t) = 1#1 ↔ t.val % 16 = 0)

/-- The invariant of the launch with the scratch operands as memrefs owned at some contents. -/
theorem PhiA_eq (c : Dev nD) :
    (Pipeline.ΦA spec0 c : sProp 𝕄G)
      = iprop(iprop((∃ d, owns (c : Thread nD τ) sc_0 fullShare d) ∗ (∃ d, owns (c : Thread nD τ) sc_1 fullShare d) ∗ (∃ d, owns (c : Thread nD τ) sc_2 fullShare d)) ∗ (∃ r, prngReg c r)) := by
  unfold Pipeline.ΦA; rw [scopedRest0_eq]; simp only [sc_0, sc_1, sc_2, owns_whole]; try rfl

/-- The dequantised weight of the run: of the two whole-array inputs as the first point's blocks hold them. -/
def wAt (c : Dev nD) (t : Fin cfg0.N) : Vec F S2112x5120 .bf16 := WB (iblk m c 0 t) (iblk m c 2 t)

/-- Both inputs of the dequantised weight are whole arrays: their blocks are the same at every point. -/
theorem wAt_const (c : Dev nD) (t t' : Fin cfg0.N) : (wAt m c t : Vec F S2112x5120 .bf16) = wAt m c t' := by
  unfold wAt
  rw [show (iblk m c 0 t : Vec F S17x40 .f32) = iblk m c 0 t' from rfl, show (iblk m c 2 t : Vec F S2112x5120 .fp8e4m3) = iblk m c 2 t' from rfl]

/-- The invariant before position `n`: before the first point every scratch at anything; afterwards the weight scratch
    at the dequantised weight, the others at anything, and the generator register at some state. -/
def PhiS (c : Dev nD) : (n : ℕ) → n ≤ cfg0.N → sProp 𝕄G
  | 0, _ => Pipeline.ΦA spec0 c
  | n + 1, hn => iprop(iprop(owns (c : Thread nD τ) sc_0 fullShare (wAt m c ⟨n, hn⟩) ∗ (∃ d, owns (c : Thread nD τ) sc_1 fullShare d) ∗ (∃ d, owns (c : Thread nD τ) sc_2 fullShare d)) ∗ (∃ r, prngReg c r))

theorem PhiS_zero (c : Dev nD) (n : ℕ) (h : n ≤ cfg0.N) (hz : n = 0) : PhiS m c n h = Pipeline.ΦA spec0 c := by
  subst hz; rfl

/-- After point `n`: the weight scratch at the dequantised weight. -/
theorem PhiS_succ (c : Dev nD) (n : ℕ) (hn : n < cfg0.N) :
    PhiS m c (n + 1) hn = iprop(iprop(owns (c : Thread nD τ) sc_0 fullShare (wAt m c ⟨n, hn⟩) ∗ (∃ d, owns (c : Thread nD τ) sc_1 fullShare d) ∗ (∃ d, owns (c : Thread nD τ) sc_2 fullShare d)) ∗ (∃ r, prngReg c r)) := rfl

/-- Before a point that is not the first: the weight scratch at the dequantised weight. -/
theorem PhiS_pos (c : Dev nD) (n : ℕ) (h : n ≤ cfg0.N) (hz : n ≠ 0) :
    PhiS m c n h = iprop(iprop(owns (c : Thread nD τ) sc_0 fullShare (wAt m c ⟨n - 1, by omega⟩) ∗ (∃ d, owns (c : Thread nD τ) sc_1 fullShare d) ∗ (∃ d, owns (c : Thread nD τ) sc_2 fullShare d)) ∗ (∃ r, prngReg c r)) := by
  cases n with
  | zero => exact absurd rfl hz
  | succ n => rfl

/-! ## The proof data of the pipeline -/

/-- What the body leaves in each output window at point `t`. -/
def oat_5 (c : Dev nD) (t : Fin cfg0.N) : Vec F S256x1536 .bf16 :=
  out_5 c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) sc_0 (Memref.isWhole_whole _) sc_1 (Memref.isWhole_whole _) sc_2 (Memref.isWhole_whole _) (iblk m c 0 t) (iblk m c 1 t) (iblk m c 2 t) (iblk m c 3 t) (iblk m c 4 t)
def oat_6 (c : Dev nD) (t : Fin cfg0.N) : Vec F S256x512 .bf16 :=
  out_6 c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) sc_0 (Memref.isWhole_whole _) sc_1 (Memref.isWhole_whole _) sc_2 (Memref.isWhole_whole _) (iblk m c 0 t) (iblk m c 1 t) (iblk m c 2 t) (iblk m c 3 t) (iblk m c 4 t)
def oat_7 (c : Dev nD) (t : Fin cfg0.N) : Vec F S256x64 .bf16 :=
  out_7 c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) sc_0 (Memref.isWhole_whole _) sc_1 (Memref.isWhole_whole _) sc_2 (Memref.isWhole_whole _) (iblk m c 0 t) (iblk m c 1 t) (iblk m c 2 t) (iblk m c 3 t) (iblk m c 4 t)
def oat_8 (c : Dev nD) (t : Fin cfg0.N) : Vec F S256x5120 .fp8e4m3 :=
  out_8 c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) sc_0 (Memref.isWhole_whole _) sc_1 (Memref.isWhole_whole _) sc_2 (Memref.isWhole_whole _) (iblk m c 0 t) (iblk m c 1 t) (iblk m c 2 t) (iblk m c 3 t) (iblk m c 4 t)
def oat_9 (c : Dev nD) (t : Fin cfg0.N) : Vec F S256x40 .f32 :=
  out_9 c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) sc_0 (Memref.isWhole_whole _) sc_1 (Memref.isWhole_whole _) sc_2 (Memref.isWhole_whole _) (iblk m c 0 t) (iblk m c 1 t) (iblk m c 2 t) (iblk m c 3 t) (iblk m c 4 t)

/-- The proof data of the one pipeline on core `c`: the arrays as the region finds them; after the body at point `t` each
    input's buffer at its block and each output's at `oat_W`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => oat_5 m c t
    | ⟨6, _⟩ => oat_6 m c t
    | ⟨7, _⟩ => oat_7 m c t
    | ⟨8, _⟩ => oat_8 m c t
    | ⟨9, _⟩ => oat_9 m c t
  Φ t := PhiS m c t.val (Nat.le_of_lt_succ t.isLt)
  q _ := fullShare
  owed _ := 0

/-- The proof data's arrays are the contents the region is entered with. -/
theorem A_eq (c : Dev nD) (w : Fin cfg0.W) : (dats m 0 c).A w = V m c (Pipeline.arrRef spec0 w) := by
  dsimp only [dats]

/-- The invariant at a point's start, restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window. -/
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = oat_5 m c t := by dsimp only [dats]
theorem after_6 (c : Dev nD) (t : Fin cfg0.N) : (dats m 0 c).after 6 t = oat_6 m c t := by dsimp only [dats]
theorem after_7 (c : Dev nD) (t : Fin cfg0.N) : (dats m 0 c).after 7 t = oat_7 m c t := by dsimp only [dats]
theorem after_8 (c : Dev nD) (t : Fin cfg0.N) : (dats m 0 c).after 8 t = oat_8 m c t := by dsimp only [dats]
theorem after_9 (c : Dev nD) (t : Fin cfg0.N) : (dats m 0 c).after 9 t = oat_9 m c t := by dsimp only [dats]

/-- Each input's current staging buffer holds its block at every point, fetched there or not. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

/-! ## The body obligation, at a generic point -/

/-- What the body is called with at point `t`, the windows one by one, -/
def bodyPre (c : Dev nD) (t : Fin cfg0.N) : sProp 𝕄G :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d))
    ∗ (∃ d, owns (c : Thread nD τ) (ms_4 t) fullShare ((dats m 0 c).before 4 t d))
    ∗ (∃ d, owns (c : Thread nD τ) (ms_5 t) fullShare ((dats m 0 c).before 5 t d))
    ∗ (∃ d, owns (c : Thread nD τ) (ms_6 t) fullShare ((dats m 0 c).before 6 t d))
    ∗ (∃ d, owns (c : Thread nD τ) (ms_7 t) fullShare ((dats m 0 c).before 7 t d))
    ∗ (∃ d, owns (c : Thread nD τ) (ms_8 t) fullShare ((dats m 0 c).before 8 t d))
    ∗ (∃ d, owns (c : Thread nD τ) (ms_9 t) fullShare ((dats m 0 c).before 9 t d)))

/-- and what it returns. -/
def bodyPost (c : Dev nD) (t : Fin cfg0.N) : sProp 𝕄G :=
  iprop((dats m 0 c).Φ t.succ ∗ (dats m 0 c).owesAt () t.succ
    ∗ owns (c : Thread nD τ) (ms_0 t) fullShare ((dats m 0 c).after 0 t)
    ∗ owns (c : Thread nD τ) (ms_1 t) fullShare ((dats m 0 c).after 1 t)
    ∗ owns (c : Thread nD τ) (ms_2 t) fullShare ((dats m 0 c).after 2 t)
    ∗ owns (c : Thread nD τ) (ms_3 t) fullShare ((dats m 0 c).after 3 t)
    ∗ owns (c : Thread nD τ) (ms_4 t) fullShare ((dats m 0 c).after 4 t)
    ∗ owns (c : Thread nD τ) (ms_5 t) fullShare ((dats m 0 c).after 5 t)
    ∗ owns (c : Thread nD τ) (ms_6 t) fullShare ((dats m 0 c).after 6 t)
    ∗ owns (c : Thread nD τ) (ms_7 t) fullShare ((dats m 0 c).after 7 t)
    ∗ owns (c : Thread nD τ) (ms_8 t) fullShare ((dats m 0 c).after 8 t)
    ∗ owns (c : Thread nD τ) (ms_9 t) fullShare ((dats m 0 c).after 9 t))

set_option maxHeartbeats 4000000 in
/-- The body at any point, from any contents of the weight scratch where it fills it, from the dequantised weight
    elsewhere: it leaves every output at `oat_W` and the weight scratch at the dequantised weight. -/
theorem sound_at (c : Dev nD) (t : Fin cfg0.N) (xs : Vec F S2112x5120 .bf16)
    (hxs : k0_cond1 (grid0.coords t) = 1#1 ∨ xs = wAt m c t) :
    iprop(iprop(iprop(owns (c : Thread nD τ) sc_0 fullShare xs ∗ (∃ d, owns (c : Thread nD τ) sc_1 fullShare d) ∗ (∃ d, owns (c : Thread nD τ) sc_2 fullShare d)) ∗ (∃ r, prngReg c r)) ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d))
    ∗ (∃ d, owns (c : Thread nD τ) (ms_4 t) fullShare ((dats m 0 c).before 4 t d))
    ∗ (∃ d, owns (c : Thread nD τ) (ms_5 t) fullShare ((dats m 0 c).before 5 t d))
    ∗ (∃ d, owns (c : Thread nD τ) (ms_6 t) fullShare ((dats m 0 c).before 6 t d))
    ∗ (∃ d, owns (c : Thread nD τ) (ms_7 t) fullShare ((dats m 0 c).before 7 t d))
    ∗ (∃ d, owns (c : Thread nD τ) (ms_8 t) fullShare ((dats m 0 c).before 8 t d))
    ∗ (∃ d, owns (c : Thread nD τ) (ms_9 t) fullShare ((dats m 0 c).before 9 t d)))
    ⊢ wp frame (wpE (defs₀ (F := F)) Variants.none c none) Set.univ (bodyAt0 t) (fun _ => bodyPost m c t) := by
  unfold bodyPost bodyAt0
  simp only [before_0, before_1, before_2, before_3, before_4]
  rw [show (dats m 0 c).owesAt () t.succ = (dats m 0 c).owesAt () t.castSucc from rfl,
    after_0, after_1, after_2, after_3, after_4, after_5, after_6, after_7, after_8, after_9]
  rw [show (dats m 0 c).Φ t.succ = PhiS m c (t.val + 1) t.isLt from rfl, PhiS_succ]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((kernelRun c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) sc_0 (Memref.isWhole_whole _) sc_1 (Memref.isWhole_whole _) sc_2 (Memref.isWhole_whole _) (iblk m c 0 t) (iblk m c 1 t) (iblk m c 2 t) (iblk m c 3 t) (iblk m c 4 t)).2 xs hxs Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  isplitl [H9]; · iexists _; iexact H9
  isplitl [HS0]; · iexact HS0
  isplitl [HS1]; · iexact HS1
  isplitl [HS2]; · iexact HS2
  iintro ⟨H0, H1, H2, H3, H4, ⟨%e5, H5⟩, ⟨%e6, H6⟩, ⟨%e7, H7⟩, ⟨%e8, H8⟩, ⟨%e9, H9⟩, HS0, HS1, HS2⟩
  isplitl [HS0 HS1 HS2 Hg]
  · isplitl [HS0 HS1 HS2]
    · isplitl [HS0]
      · iexact HS0
      isplitl [HS1]
      · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_eq_canon _ _ _ (cover_5 c _ _ _ _ _ _ _ _ _ _ _ _ _ _ _ _ _ _ _ _ _ _ _ _ _ _ _ _ _ _ _ _)
  isplitl [H6]
  · unfold owns; iexists _; isplitr
    swap; · iexact H6
    ipureintro; exact View.read_writes_eq_canon _ _ _ (cover_6 c _ _ _ _ _ _ _ _ _ _ _ _ _ _ _ _ _ _ _ _ _ _ _ _ _ _ _ _ _ _ _ _)
  isplitl [H7]
  · unfold owns; iexists _; isplitr
    swap; · iexact H7
    ipureintro; exact View.read_writes_eq_canon _ _ _ (cover_7 c _ _ _ _ _ _ _ _ _ _ _ _ _ _ _ _ _ _ _ _ _ _ _ _ _ _ _ _ _ _ _ _)
  isplitl [H8]
  · unfold owns; iexists _; isplitr
    swap; · iexact H8
    ipureintro; exact View.read_writes_eq_canon _ _ _ (cover_8 c _ _ _ _ _ _ _ _ _ _ _ _ _ _ _ _ _ _ _ _ _ _ _ _ _ _ _ _ _ _ _ _)
  unfold owns; iexists _; isplitr
  swap; · iexact H9
  ipureintro; exact View.read_writes_eq_canon _ _ _ (cover_9 c _ _ _ _ _ _ _ _ _ _ _ _ _ _ _ _ _ _ _ _ _ _ _ _ _ _ _ _ _ _ _ _)

/-- The body at any point, from the invariant before it. -/
theorem sound_body (c : Dev nD) (t : Fin cfg0.N) :
    bodyPre m c t ⊢ wp frame (wpE (defs₀ (F := F)) Variants.none c none) Set.univ (bodyAt0 t) (fun _ => bodyPost m c t) := by
  unfold bodyPre
  by_cases hz : t.val = 0
  · rw [PhiS_castSucc m c t, PhiS_zero m c _ _ hz, PhiA_eq]
    iintro ⟨⟨⟨⟨%xs, HS0⟩, HS1, HS2⟩, Hg⟩, Hr⟩
    iapply (sound_at m c t xs (Or.inl ((fill_iff t).mpr (by rw [hz]))))
    isplitr [Hr]
    · isplitr [Hg]
      · isplitl [HS0]; · iexact HS0
        isplitl [HS1]; · iexact HS1
        iexact HS2
      iexact Hg
    iexact Hr
  · rw [PhiS_castSucc m c t, PhiS_pos m c _ _ hz]
    exact sound_at m c t _ (Or.inr (wAt_const m c _ t))

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body obligation of the pipeline, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the launch's back: the weight scratch's contents are forgotten. -/
theorem hout (c : Dev nD) : (dats m 0 c).Φ (Fin.last cfg0.N) ⊢ Pipeline.ΦA spec0 c := by
  have ht : (Fin.last cfg0.N).val ≠ 0 := by rw [Fin.val_last]; have : cfg0.N = 16 := N_0; omega
  rw [show (dats m 0 c).Φ (Fin.last cfg0.N) = PhiS m c (Fin.last cfg0.N).val (Nat.le_of_lt_succ (Fin.last cfg0.N).isLt) from rfl, PhiS_pos m c _ _ ht, PhiA_eq]
  iintro ⟨⟨HS0, HS1, HS2⟩, Hg⟩
  isplitl [HS0 HS1 HS2]
  · isplitl [HS0]
    · iexists _; iexact HS0
    isplitl [HS1]
    · iexact HS1
    iexact HS2
  iexact Hg

/-! ## The run and the frame -/

set_option backward.isDefEq.respectTransparency.types false in
/-- The run: every weakly fair execution terminates with every array of the pipeline at what the proof data give, every
    other buffer as the region found it, and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The run without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The frame of the idealised kernel: it terminates, leaves its arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.KernelIdeal.Hand
-- ==== Proof.Values.lean ====
module

public import proofs.«01_k».proof.Proof.Block
public import proofs.«01_k».proof.Proof.Data
public import Idealize.ShloMosaic.Lib.WordCmp
public import Idealize.ShloMosaic.Lib.ValueIdxCore

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄G" => MT nD τ sig Unit (Elt F) ℕ (UR sig nD τ) ℕ

/-! ## What one step of the grid writes, as functions of its blocks of the arguments -/

variable (c : Dev nD) (i : grid0.Coords) (arg1 : Memref sig .tc .smem S17x40 .f32) (harg1 : arg1.IsWhole) (arg2 : Memref sig .tc .vmem S256x5120 .bf16) (harg2 : arg2.IsWhole) (arg3 : Memref sig .tc .vmem S2112x5120 .fp8e4m3) (harg3 : arg3.IsWhole) (arg4 : Memref sig .tc .vmem S1x1536 .bf16) (harg4 : arg4.IsWhole) (arg5 : Memref sig .tc .vmem S1x512 .bf16) (harg5 : arg5.IsWhole) (arg6 : Memref sig .tc .vmem S256x1536 .bf16) (harg6 : arg6.IsWhole) (arg7 : Memref sig .tc .vmem S256x512 .bf16) (harg7 : arg7.IsWhole) (arg8 : Memref sig .tc .vmem S256x64 .bf16) (harg8 : arg8.IsWhole) (arg9 : Memref sig .tc .vmem S256x5120 .fp8e4m3) (harg9 : arg9.IsWhole) (arg10 : Memref sig .tc .vmem S256x40 .f32) (harg10 : arg10.IsWhole) (arg11 : Memref sig .tc .vmem S2112x5120 .bf16) (harg11 : arg11.IsWhole) (arg12 : Memref sig .tc .vmem S256x5120 .bf16) (harg12 : arg12.IsWhole) (arg13 : Memref sig .tc .vmem S256x2048 .f32) (harg13 : arg13.IsWhole) (x0 : Vec F S17x40 .f32) (x1 : Vec F S256x5120 .bf16) (x2 : Vec F S2112x5120 .fp8e4m3) (x3 : Vec F S1x1536 .bf16) (x4 : Vec F S1x512 .bf16)

/-- The codes of a step are the codes of each block of 128 columns. -/
theorem out_8_eq : out_8 c i arg1 harg1 arg2 harg2 arg3 harg3 arg4 harg4 arg5 harg5 arg6 harg6 arg7 harg7 arg8 harg8 arg9 harg9 arg10 harg10 arg11 harg11 arg12 harg12 arg13 harg13 x0 x1 x2 x3 x4 = onBlk blkCodes x1 := by
  unfold out_8
  exact funext fun y => View.canon_apply_of_pieces _ _ (codes_pieces c i arg1 harg1 arg2 harg2 arg3 harg3 arg4 harg4 arg5 harg5 arg6 harg6 arg7 harg7 arg8 harg8 arg9 harg9 arg10 harg10 arg11 harg11 arg12 harg12 arg13 harg13 x0 x1 x2 x3 x4).mem y (cover_8 c i arg1 harg1 arg2 harg2 arg3 harg3 arg4 harg4 arg5 harg5 arg6 harg6 arg7 harg7 arg8 harg8 arg9 harg9 arg10 harg10 arg11 harg11 arg12 harg12 arg13 harg13 x0 x1 x2 x3 x4 y)

/-- What the body multiplies with is the codes of each block of 128 columns at their scale. -/
theorem v3327_eq : kernelRun.sl.v3327 c arg2 harg2 arg12 x1 = onBlk blkXb x1 := by
  unfold kernelRun.sl.v3327
  rw [View.readCov_eq_canon']
  funext y
  rw [View.canon_apply_of_pieces _ _ (xb_pieces c arg2 harg2 x1).mem _ (View.cover_of_tiledBy _ ![256, 128] (by sl_kernel_rfl) _)]
  refine congrArg _ (funext fun a => Fin.ext ?_)
  match a with
  | ⟨0, _⟩ => exact (by omega : 0 + 1 * (y 0).val = (y 0).val)
  | ⟨1, _⟩ => exact (by omega : 0 + 1 * (y 1).val = (y 1).val)

/-- The third result of a step: the product with the last 64 rows of the dequantised weight. -/
theorem out_7_eq : out_7 c i arg1 harg1 arg2 harg2 arg3 harg3 arg4 harg4 arg5 harg5 arg6 harg6 arg7 harg7 arg8 harg8 arg9 harg9 arg10 harg10 arg11 harg11 arg12 harg12 arg13 harg13 x0 x1 x2 x3 x4
    = k0_pay504 (onBlk blkXb x1) (View.ld (WB x0 x2) (Rect.unit ![2048, 0] S64x5120.size inb_S2112x5120_S64x5120_2048_0)) := by
  unfold out_7 kernelRun; dsimp only
  rw [View.canon_unit_zero (by decide)]
  rw [v3327_eq, View.readAt_eq_ld, harg11.read_unread]

/-! ### The scales: one lane per block -/

/-- The lanes after `n` blocks: lane `k` takes the scale of block `k`. -/
def laneAcc (b : ℕ → Vec F S256x128 .bf16) : ℕ → FVec F S256x128 .f32
  | 0 => broadcast S256x128 (Scalar.ofBits .f32 0x00000000#32)
  | n + 1 => select (cmpi .eq (iota .tc S256x128 32 [1] iota_S256x128_d1_w32) (broadcast S256x128 (BitVec.ofNat 32 n)))
      (extf .f32 (blkScale (b n)) bitsLt_bf16_f32) (laneAcc b n)

/-- The columns of block `n`, as the body reads them. -/
def rdBlk (arg2 : Memref sig .tc .vmem S256x5120 .bf16) (harg2 : arg2.IsWhole) (x1 : Vec F S256x5120 .bf16) (n : ℕ) : Vec F S256x128 .bf16 :=
  if h : n * 128 + 128 ≤ 5120 then View.readAt (Elt F) arg2.view (Rect.unit (s := S256x5120) ![0, n * 128] S256x128.size (blk_inb (n * 128) h)).toLoadRect (harg2.unread x1)
  else fun _ => Scalar.ofBits .bf16 0#16

theorem lanes_eq : extractStridedSlice S256x40 ![0, 0] (laneAcc (rdBlk arg2 harg2 x1) 40) slices_S256x128_o0_0_S256x40
    = k0_pay499 kernelRun.sl.v3 (kernelRun.sl.r_238 c arg2 harg2 x1) (kernelRun.sl.r_244 c arg2 harg2 x1) := by
  rfl

/-- A lane below the number of blocks holds the scale of its block. -/
theorem laneAcc_apply (b : ℕ → Vec F S256x128 .bf16) (y : S256x128.Idx) : ∀ n ≤ 128,
    laneAcc b n y = if (y 1).val < n then (extf .f32 (blkScale (b (y 1).val)) bitsLt_bf16_f32 : FVec F S256x128 .f32) y else FloatOps.ofBits .f32 0x00000000#32
  | 0, _ => by rw [if_neg (by omega)]; rfl
  | n + 1, hn => by
    have hy : (y 1).val < 128 := (y 1).isLt
    have ih := laneAcc_apply b y n (by omega)
    have e : (cmpi .eq (iota .tc S256x128 32 [1] iota_S256x128_d1_w32) (broadcast S256x128 (BitVec.ofNat 32 n)) y = 1) ↔ (y 1).val = n := by
      show IntOp.cmpi .eq (iota .tc S256x128 32 [1] iota_S256x128_d1_w32 y) (BitVec.ofNat 32 n) = 1#1 ↔ _
      rw [iota_single_apply]
      exact WordCmp.cmpi_eq_ofNat_eq_one_iff (by omega) (by omega)
    unfold laneAcc
    rw [ValueIdx.select_apply, Scalar.select, ih]
    by_cases h : (y 1).val = n
    · rw [if_pos (e.2 h), if_pos (by omega), h]
    · rw [if_neg (fun q => h (e.1 q))]
      by_cases h' : (y 1).val < n
      · rw [if_pos h', if_pos (by omega)]
      · rw [if_neg h', if_neg (by omega)]

theorem scl_lt (y : S256x40.Idx) : (y 1).val * 128 + 128 ≤ 5120 := by
  have h : (y 1).val < 40 := (y 1).isLt
  omega

/-- An index of the scales as an index of a block of 128 columns. -/
def sclIdx (y : S256x40.Idx) : S256x128.Idx := fun a => match a with
  | ⟨0, _⟩ => ⟨(y 0).val, (y 0).isLt⟩
  | ⟨1, _⟩ => ⟨(y 1).val, Nat.lt_of_lt_of_le (m := 40) (y 1).isLt (show 40 ≤ 128 by decide)⟩

/-- The scales of the rows: column `k` holds the scale of block `k`. -/
def sclOf (x1 : Vec F S256x5120 .bf16) : Vec F S256x40 .f32 := fun y =>
  (extf .f32 (blkScale (colBlk x1 ((y 1).val * 128) (scl_lt y))) bitsLt_bf16_f32 : FVec F S256x128 .f32) (sclIdx y)

/-- The first 40 lanes after all blocks are the scales. -/
theorem scl_slice : extractStridedSlice S256x40 ![0, 0] (laneAcc (rdBlk arg2 harg2 x1) 40) slices_S256x128_o0_0_S256x40 = sclOf x1 := by
  funext y
  have hy : (y 1).val < 40 := (y 1).isLt
  have e : extractStridedSlice S256x40 ![0, 0] (laneAcc (rdBlk arg2 harg2 x1) 40) slices_S256x128_o0_0_S256x40 y = laneAcc (rdBlk arg2 harg2 x1) 40 (sclIdx y) := by
    refine extractStridedSlice_apply _ _ _ _ _ fun a => ?_
    match a with
    | ⟨0, _⟩ => exact (Nat.zero_add (y 0).val).symm
    | ⟨1, _⟩ => exact (Nat.zero_add (y 1).val).symm
  rw [e, laneAcc_apply _ _ _ (by decide)]
  show (if (y 1).val < 40 then _ else _) = _
  rw [if_pos hy]
  have e2 : rdBlk arg2 harg2 x1 (y 1).val = colBlk x1 ((y 1).val * 128) (scl_lt y) := by
    unfold rdBlk
    rw [dif_pos (scl_lt y), View.readAt_eq_ld, harg2.read_unread]
    rfl
  show (extf .f32 (blkScale (rdBlk arg2 harg2 x1 (y 1).val)) bitsLt_bf16_f32 : FVec F S256x128 .f32) (sclIdx y) = _
  rw [e2]
  rfl

/-- The fifth result of a step. -/
theorem out_9_eq : out_9 c i arg1 harg1 arg2 harg2 arg3 harg3 arg4 harg4 arg5 harg5 arg6 harg6 arg7 harg7 arg8 harg8 arg9 harg9 arg10 harg10 arg11 harg11 arg12 harg12 arg13 harg13 x0 x1 x2 x3 x4 = sclOf x1 := by
  unfold out_9 kernelRun; dsimp only
  rw [View.canon_unit_zero (by decide), ← lanes_eq, scl_slice]

/-! ### The product in its four chunks of columns -/

theorem wRows_congr (x0 : Vec F S17x40 .f32) (x2 : Vec F S2112x5120 .fp8e4m3) {o o' : ℕ} (e : o = o')
    (h : ∀ a, (![o, 0] : Fin 2 → Nat) a + S512x5120.size a ≤ S2112x5120.size a) (h' : ∀ a, (![o', 0] : Fin 2 → Nat) a + S512x5120.size a ≤ S2112x5120.size a) :
    (View.ld (WB x0 x2) (Rect.unit (s := S2112x5120) ![o, 0] S512x5120.size h) : Vec F S512x5120 .bf16)
      = View.ld (WB x0 x2) (Rect.unit (s := S2112x5120) ![o', 0] S512x5120.size h') := by
  subst e; rfl

/-- The product a step keeps in its scratch. -/
def yOf (x0 : Vec F S17x40 .f32) (x1 : Vec F S256x5120 .bf16) (x2 : Vec F S2112x5120 .fp8e4m3) : Vec F S256x2048 .f32 := fun y =>
  k0_pay500 (onBlk blkXb x1) (View.ld (WB x0 x2) (Rect.unit ![(y 1).val / 512 * 512, 0] S512x5120.size
    (Rect.inb₂ (d := ![2112, 5120]) (off := ![(y 1).val / 512 * 512, 0]) (size := ![512, 5120])
      (by have h : (y 1).val < 2048 := (y 1).isLt; show (y 1).val / 512 * 512 + 512 ≤ 2112; omega) (Nat.le_refl _))))
    (fun a => match a with
      | ⟨0, _⟩ => ⟨(y 0).val, (y 0).isLt⟩
      | ⟨1, _⟩ => ⟨(y 1).val % 512, Nat.mod_lt _ (by decide)⟩)

/-- The piece of the columns from `o` on is its part of the product. -/
theorem y_piece (o : ℕ) (h : ∀ a, (![0, o] : Fin 2 → Nat) a + S256x512.size a ≤ S256x2048.size a)
    (h' : ∀ a, (![o, 0] : Fin 2 → Nat) a + S512x5120.size a ≤ S2112x5120.size a) (ho : o % 512 = 0) (x : S256x512.Idx) :
    k0_pay500 (kernelRun.sl.v3327 c arg2 harg2 arg12 x1) (View.readAt (Elt F) arg11.view (Rect.unit (s := S2112x5120) ![o, 0] S512x5120.size h').toLoadRect (harg11.unread (WB x0 x2))) x
      = yOf x0 x1 x2 ((Rect.unit (s := S256x2048) ![0, o] S256x512.size h).emb x) := by
  have hx : (x 1).val < 512 := (x 1).isLt
  rw [v3327_eq, View.readAt_eq_ld, harg11.read_unread]
  have e1 : ((Rect.unit (s := S256x2048) ![0, o] S256x512.size h).emb x 1).val / 512 * 512 = o := by
    show (o + 1 * (x 1).val) / 512 * 512 = o; omega
  have e2 : ((Rect.unit (s := S256x2048) ![0, o] S256x512.size h).emb x 1).val % 512 = (x 1).val := by
    show (o + 1 * (x 1).val) % 512 = _; omega
  have e3 : ((Rect.unit (s := S256x2048) ![0, o] S256x512.size h).emb x 0).val = (x 0).val := by
    show 0 + 1 * (x 0).val = _; omega
  unfold yOf
  refine congr (congrArg _ ?_) (funext fun a => Fin.ext ?_)
  · exact wRows_congr x0 x2 e1.symm _ _
  · match a with
    | ⟨0, _⟩ => exact e3.symm
    | ⟨1, _⟩ => exact e2.symm

/-- The pieces of the product scratch are parts of one product. -/
theorem y_pieces : View.PiecesOf (yOf x0 x1 x2) (kernelRun.sl.HS2_4 c arg2 harg2 arg11 harg11 arg12 x0 x1 x2) := by
  unfold kernelRun.sl.HS2_4
  exact ⟨fun x => y_piece c arg2 harg2 arg11 harg11 arg12 x0 x1 x2 1536 inb_S256x2048_S256x512_0_1536 inb_S2112x5120_S512x5120_1536_0 (by decide) x, fun x => y_piece c arg2 harg2 arg11 harg11 arg12 x0 x1 x2 1024 inb_S256x2048_S256x512_0_1024 inb_S2112x5120_S512x5120_1024_0 (by decide) x,
    fun x => y_piece c arg2 harg2 arg11 harg11 arg12 x0 x1 x2 512 inb_S256x2048_S256x512_0_512 inb_S2112x5120_S512x5120_512_0 (by decide) x, fun x => y_piece c arg2 harg2 arg11 harg11 arg12 x0 x1 x2 0 inb_S256x2048_S256x512_0_0 inb_S2112x5120_S512x5120_0_0 (by decide) x, trivial⟩

/-- The scratch of the product, read whole. -/
theorem y_canon : View.canon (kernelRun.sl.HS2_4 c arg2 harg2 arg11 harg11 arg12 x0 x1 x2) = yOf x0 x1 x2 :=
  funext fun y => View.canon_apply_of_pieces _ _ (y_pieces c arg2 harg2 arg11 harg11 arg12 x0 x1 x2).mem y (View.cover_of_tiledBy _ ![256, 512] (by sl_kernel_rfl) y)

/-- The first result of a step: the normalised first 1536 columns. -/
theorem out_5_eq : out_5 c i arg1 harg1 arg2 harg2 arg3 harg3 arg4 harg4 arg5 harg5 arg6 harg6 arg7 harg7 arg8 harg8 arg9 harg9 arg10 harg10 arg11 harg11 arg12 harg12 arg13 harg13 x0 x1 x2 x3 x4
    = k0_pay505 (fun j => yOf x0 x1 x2 ((Rect.unit (s := S256x2048) ![0, 0] S256x1536.size inb_S256x2048_S256x1536_0_0).emb j)) x3 := by
  unfold out_5 kernelRun; dsimp only
  rw [View.canon_unit_zero (by decide)]
  have e : kernelRun.sl.v3356 c arg2 harg2 arg11 harg11 arg12 arg13 x0 x1 x2 = fun j => yOf x0 x1 x2 ((Rect.unit (s := S256x2048) ![0, 0] S256x1536.size inb_S256x2048_S256x1536_0_0).emb j) := by
    unfold kernelRun.sl.v3356
    rw [View.readCov_eq_canon', y_canon c arg2 harg2 arg11 harg11 arg12 x0 x1 x2]
    rfl
  rw [e, View.readAt_eq_ld, harg4.read_unread, View.ld_unit_zero (by decide)]
  rfl

/-- The second result of a step: the normalised last 512 columns. -/
theorem out_6_eq : out_6 c i arg1 harg1 arg2 harg2 arg3 harg3 arg4 harg4 arg5 harg5 arg6 harg6 arg7 harg7 arg8 harg8 arg9 harg9 arg10 harg10 arg11 harg11 arg12 harg12 arg13 harg13 x0 x1 x2 x3 x4
    = k0_pay1 (fun j => yOf x0 x1 x2 ((Rect.unit (s := S256x2048) ![0, 1536] S256x512.size inb_S256x2048_S256x512_0_1536).emb j)) (k0_pay506 x4)
      (k0_pay507 (fun j => yOf x0 x1 x2 ((Rect.unit (s := S256x2048) ![0, 1536] S256x512.size inb_S256x2048_S256x512_0_1536).emb j))) := by
  unfold out_6 kernelRun; dsimp only
  rw [View.canon_unit_zero (by decide)]
  have e : kernelRun.sl.v3374 c arg2 harg2 arg11 harg11 arg12 arg13 x0 x1 x2 = fun j => yOf x0 x1 x2 ((Rect.unit (s := S256x2048) ![0, 1536] S256x512.size inb_S256x2048_S256x512_0_1536).emb j) := by
    unfold kernelRun.sl.v3374
    rw [View.readCov_eq_canon', y_canon c arg2 harg2 arg11 harg11 arg12 x0 x1 x2]
    rfl
  unfold kernelRun.sl.r_247 kernelRun.sl.r_246
  rw [e, View.readAt_eq_ld, harg5.read_unread, View.ld_unit_zero (by decide)]
  rfl

end Cert.KernelIdeal.Hand
-- ==== Proof.Spec.lean ====
module

public import Idealize.ShloMosaic.PureOps.Ideal.Laws
public import Idealize.ShloMosaic.Lib.Pointwise

@[expose] public section

noncomputable section

namespace Cert.Spec

open Idealize.ShloMosaic

/-! ## The scale of a block, as mathematics

`pw n` is `2^n`. `scaleOf a` is the scale of a block whose absolute maximum is `a`: the least of the 246 powers
`2^-125 .. 2^120` whose 448-fold is above `a` (`2^120` where there is none), and 1 where `a` is below `448 * 2^-126`. -/

/-- The power of two `2^n`. -/
def pw (n : ℤ) : EReal := (((2 : ℝ) ^ n : ℝ) : EReal)

/-- What the exponent `-125 + k` offers: its power where the maximum fits, else the largest power. -/
def offer (a : EReal) (k : ℕ) : EReal := if a < pw (-125 + k) * 448 then pw (-125 + k) else pw 120

/-- The scale of a block of absolute maximum `a`. -/
def scaleOf (a : EReal) : EReal :=
  if a < 448 * pw (-126) then 1 else (Finset.univ : Finset (Fin 246)).fold min ⊤ fun k => offer a k.val

/-! ### The search by comparisons finds it -/

/-- The maximum cut at the largest finite bfloat16, `255 * 2^120`. -/
def cut (a : EReal) : EReal := if a < 255 * pw 120 then a else 255 * pw 120

/-- One step of the search. -/
def up (b : ℤ) (a e : EReal) : EReal := if e * pw b * 224 ≤ a then e * pw b else e

/-- The search, from `2^3` or `2^-125` in steps of 64, 32, 16, 8, 4, 2, 1. -/
def search (a : EReal) : EReal :=
  up 1 a (up 2 a (up 4 a (up 8 a (up 16 a (up 32 a (up 64 a (if 224 * pw 3 ≤ a then pw 3 else pw (-125))))))))

theorem pw_mul (n b : ℤ) : pw n * pw b = pw (n + b) := by
  unfold pw; rw [← EReal.coe_mul, ← zpow_add₀ (by norm_num)]

theorem pw_le {n k : ℤ} : pw n ≤ pw k ↔ n ≤ k := by
  unfold pw; rw [EReal.coe_le_coe_iff]; exact zpow_le_zpow_iff_right₀ (by norm_num)

theorem coe224 : ((224 : ℝ) : EReal) = 224 := rfl
theorem coe448 : ((448 : ℝ) : EReal) = 448 := rfl
theorem coe255 : ((255 : ℝ) : EReal) = 255 := rfl

theorem pw_448 (n : ℤ) : pw n * 448 = ((448 * (2 : ℝ) ^ n : ℝ) : EReal) := by
  unfold pw; rw [← coe448, ← EReal.coe_mul, mul_comm]
theorem pw_224 (n : ℤ) : pw n * 224 = ((224 * (2 : ℝ) ^ n : ℝ) : EReal) := by
  unfold pw; rw [← coe224, ← EReal.coe_mul, mul_comm]
theorem pw_255 (n : ℤ) : 255 * pw n = ((255 * (2 : ℝ) ^ n : ℝ) : EReal) := by
  unfold pw; rw [← coe255, ← EReal.coe_mul]

/-- What the search keeps: the value is a power whose `2^b`-fold is too large, and it is the first power or one still
    below the maximum. -/
def Inv (a e : EReal) (b : ℤ) : Prop :=
  ∃ n : ℤ, e = pw n ∧ -125 ≤ n ∧ a < pw (n + b) * 224 ∧ (n = -125 ∨ pw n * 224 ≤ a)

theorem Inv.step {a e : EReal} (b : ℤ) (hb : 0 ≤ b) (h : Inv a e (b + b)) : Inv a (up b a e) b := by
  obtain ⟨n, rfl, h1, h2, h3⟩ := h
  unfold up
  rw [pw_mul]
  by_cases hc : pw (n + b) * 224 ≤ a
  · rw [if_pos hc]; exact ⟨n + b, rfl, by omega, by rw [add_assoc]; exact h2, .inr hc⟩
  · rw [if_neg hc]; exact ⟨n, rfl, h1, not_le.1 hc, h3⟩

theorem cut_le (a : EReal) : cut a ≤ 255 * pw 120 := by
  unfold cut; split
  · exact le_of_lt ‹_›
  · exact le_rfl

theorem cut_le_self (a : EReal) : cut a ≤ a := by
  unfold cut; split
  · exact le_rfl
  · exact not_lt.1 ‹_›

theorem search_inv (a : EReal) (ha : a ≤ 255 * pw 120) : Inv a (search a) 1 := by
  unfold search
  refine Inv.step 1 (by norm_num) (Inv.step 2 (by norm_num) (Inv.step 4 (by norm_num) (Inv.step 8 (by norm_num)
    (Inv.step 16 (by norm_num) (Inv.step 32 (by norm_num) (Inv.step 64 (by norm_num) ?_))))))
  by_cases hc : 224 * pw 3 ≤ a
  · rw [if_pos hc]
    refine ⟨3, rfl, by norm_num, lt_of_le_of_lt ha ?_, .inr (by rw [mul_comm]; exact hc)⟩
    rw [pw_255, pw_224, EReal.coe_lt_coe_iff]; norm_num
  · rw [if_neg hc]
    exact ⟨-125, rfl, le_rfl, by rw [mul_comm]; exact not_le.1 hc, .inl rfl⟩

/-- The search finds the least power that fits. -/
theorem search_eq (a : EReal) :
    search (cut a) = (Finset.univ : Finset (Fin 246)).fold min ⊤ fun k => offer a k.val := by
  obtain ⟨n, hn, h1, h2, h3⟩ := search_inv (cut a) (cut_le a)
  have h2' : cut a < pw n * 448 := by
    refine lt_of_lt_of_eq h2 ?_
    rw [pw_224, pw_448, EReal.coe_eq_coe_iff, zpow_add₀ (by norm_num)]; ring
  have h4 : n ≤ 120 := by
    rcases h3 with h3 | h3
    · omega
    · by_contra hc
      have := le_trans h3 (cut_le a)
      rw [pw_224, pw_255, EReal.coe_le_coe_iff] at this
      have h5 : (2 : ℝ) ^ (121 : ℤ) ≤ 2 ^ n := zpow_le_zpow_right₀ (by norm_num) (by omega)
      norm_num at h5 this
      linarith
  rw [hn]
  refine le_antisymm (Finset.le_fold_min _ |>.2 ⟨le_top, fun k _ => ?_⟩) (Finset.fold_min_le _ |>.2 (.inr ⟨⟨(n + 125).toNat, by omega⟩, Finset.mem_univ _, ?_⟩))
  · unfold offer
    split
    · rename_i h
      rw [pw_le]
      by_contra hc
      rcases h3 with h3 | h3
      · omega
      · have h6 := lt_of_le_of_lt (le_trans h3 (cut_le_self a)) h
        rw [pw_224, pw_448, EReal.coe_lt_coe_iff] at h6
        have h5 : (2 : ℝ) ^ ((-125 + (k.val : ℤ)) + 1) ≤ 2 ^ n := zpow_le_zpow_right₀ (by norm_num) (by omega)
        rw [zpow_add₀ (by norm_num), zpow_one] at h5
        linarith
    · exact pw_le.2 h4
  · have e : (-125 : ℤ) + ((n + 125).toNat : ℕ) = n := by omega
    unfold offer
    simp only [e]
    split
    · exact le_rfl
    · rename_i h
      have h7 : ¬ a < 255 * pw 120 := fun q => h (by unfold cut at h2'; rwa [if_pos q] at h2')
      unfold cut at h2'; rw [if_neg h7, pw_255, pw_448, EReal.coe_lt_coe_iff] at h2'
      refine pw_le.2 ?_
      by_contra hc
      have h5 : (2 : ℝ) ^ n ≤ 2 ^ (119 : ℤ) := zpow_le_zpow_right₀ (by norm_num) (by omega)
      norm_num at h5 h2'
      linarith

/-- The tiny case is the same before and after the cut. -/
theorem cut_tiny (a : EReal) : cut a < 448 * pw (-126) ↔ a < 448 * pw (-126) := by
  unfold cut
  split
  · rfl
  · rename_i h
    have : 448 * pw (-126) ≤ 255 * pw 120 := by
      rw [mul_comm, pw_448, pw_255, EReal.coe_le_coe_iff]; norm_num
    exact ⟨fun q => absurd this (not_le.2 q), fun q => absurd (lt_of_lt_of_le q this) h⟩

/-- The scale by the search is the scale. -/
theorem scale_search (a : EReal) : (if cut a < 448 * pw (-126) then 1 else search (cut a)) = scaleOf a := by
  unfold scaleOf
  rw [search_eq]
  simp only [cut_tiny]

/-- The reciprocal by the search is the reciprocal of the scale. -/
theorem inv_search (a : EReal) : (if cut a < 448 * pw (-126) then 1 else Ideal.div 1 (search (cut a))) = Ideal.div 1 (scaleOf a) := by
  rw [← scale_search]
  split
  · simp [Ideal.div]
  · rfl

/-! ### Constants -/

/-- What a positive normal pattern of a format denotes. -/
theorem ieee_normal (e m : ℕ) {w : ℕ} (b : BitVec w) (ex fr : ℕ) (hs : (b.extractLsb' (e + m) 1 == 1#1) = false)
    (he : (b.extractLsb' m e).toNat = ex) (hf : (b.extractLsb' 0 m).toNat = fr) (h0 : ex ≠ 0) (h1 : ex ≠ 2 ^ e - 1) :
    Ideal.ieee e m b = (((2 ^ m + fr : ℕ) * (2 : ℝ) ^ ((ex : ℤ) - (2 ^ (e - 1) - 1) - m) : ℝ) : EReal) := by
  unfold Ideal.ieee
  simp only [hs, he, hf]
  rw [if_neg h1, if_neg h0]
  simp

theorem bf16_normal (b : BitVec 16) (ex fr : ℕ) (hs : (b.extractLsb' 15 1 == 1#1) = false) (he : (b.extractLsb' 7 8).toNat = ex)
    (hf : (b.extractLsb' 0 7).toNat = fr) (h0 : ex ≠ 0) (h1 : ex ≠ 255) :
    Ideal.ofBits .bf16 b = ((128 + fr : ℝ) * (2 : ℝ) ^ ((ex : ℤ) - 134) : ℝ) := by
  rw [show Ideal.ofBits .bf16 b = Ideal.ieee 8 7 b from rfl, ieee_normal 8 7 b ex fr hs he hf h0 h1, EReal.coe_eq_coe_iff]
  push_cast
  congr 2
  · norm_num
    omega

theorem f32_normal (b : BitVec 32) (ex fr : ℕ) (hs : (b.extractLsb' 31 1 == 1#1) = false) (he : (b.extractLsb' 23 8).toNat = ex)
    (hf : (b.extractLsb' 0 23).toNat = fr) (h0 : ex ≠ 0) (h1 : ex ≠ 255) :
    Ideal.ofBits .f32 b = ((8388608 + fr : ℝ) * (2 : ℝ) ^ ((ex : ℤ) - 150) : ℝ) := by
  rw [show Ideal.ofBits .f32 b = Ideal.ieee 8 23 b from rfl, ieee_normal 8 23 b ex fr hs he hf h0 h1, EReal.coe_eq_coe_iff]
  push_cast
  congr 2
  · norm_num
    omega

/-! ## One row of the results, as mathematics

`r` is a row of the activations, `w` the dequantised weight. -/

/-- Column `j` of block `k`. -/
def col (k : Fin 40) (j : Fin 128) : Fin 5120 := ⟨k.val * 128 + j.val, by omega⟩

/-- The block of a column. -/
def blk (j : Fin 5120) : Fin 40 := ⟨j.val / 128, by omega⟩

/-- The absolute maximum of 128 values. -/
def absMax (f : Fin 128 → EReal) : EReal := (Finset.univ : Finset (Fin 128)).fold max ⊥ fun j => max (f j) (-(f j))

/-- The scale of block `k` of a row. -/
def rowScale (r : Fin 5120 → EReal) (k : Fin 40) : EReal := scaleOf (absMax fun j => r (col k j))

/-- The code of column `j` of a row: the value over its block's scale, cut to `-448 .. 448`. -/
def rowCode (r : Fin 5120 → EReal) (j : Fin 5120) : EReal :=
  min (Ideal.ofBits .f32 0x43E00000#32) (max (Ideal.ofBits .f32 0xC3E00000#32) (r j * Ideal.div 1 (rowScale r (blk j))))

/-- The row the product takes: the codes at their scales. -/
def rowXb (r : Fin 5120 → EReal) (j : Fin 5120) : EReal := rowCode r j * rowScale r (blk j)

/-- Entry `n` of the product of a row with the weight. -/
def rowY (r : Fin 5120 → EReal) (w : Fin 2112 → Fin 5120 → EReal) (n : Fin 2112) : EReal := ∑ j : Fin 5120, rowXb r j * w n j

/-- The root mean square normalisation of a vector of `N` values at the gains `g`; `d` stands for the number of values. -/
def rms {N : ℕ} (d : EReal) (y g : Fin N → EReal) (n : Fin N) : EReal :=
  y n * Ideal.rsqrt (Ideal.div (∑ k : Fin N, y k * y k) d + Ideal.ofBits .f32 0x358637BD#32) * g n

/-- The dequantised weight: each 128 by 128 tile at its scale. -/
def weight (w : Fin 2112 → Fin 5120 → EReal) (s : Fin 17 → Fin 40 → EReal) (n : Fin 2112) (j : Fin 5120) : EReal :=
  w n j * s ⟨n.val / 128, by omega⟩ (blk j)

/-! ## The five results, as functions of the five arguments -/

variable (x : (⟨3, ![1, 4096, 5120]⟩ : Shape).Idx → EReal) (w : (⟨2, ![2112, 5120]⟩ : Shape).Idx → EReal) (s : (⟨2, ![17, 40]⟩ : Shape).Idx → EReal)

/-- Row `i` of the activations. -/
def row (i : Fin 4096) : Fin 5120 → EReal := fun j => x (ix3 0 i j)

/-- The dequantised weight of the weight codes and their scales. -/
def wt : Fin 2112 → Fin 5120 → EReal := weight (fun n j => w (ix2 n j)) (fun a k => s (ix2 a k))

/-- Column `o + l` of the product. -/
def yCol (i : Fin 4096) {N : ℕ} (o : ℕ) (h : o + N ≤ 2112) (l : Fin N) : EReal := rowY (row x i) (wt w s) ⟨o + l.val, by omega⟩

/-- The first result: the first 1536 columns of the product, normalised. -/
def qNorm (g : (⟨1, ![1536]⟩ : Shape).Idx → EReal) : (⟨2, ![4096, 1536]⟩ : Shape).Idx → EReal := fun y =>
  rms (Ideal.ofBits .f32 0x44C00000#32) (yCol x w s (y 0) 0 (by decide)) (fun n : Fin 1536 => g (ix1 n)) (y 1)

/-- The second result: the next 512 columns of the product, normalised. -/
def cNorm (g : (⟨1, ![512]⟩ : Shape).Idx → EReal) : (⟨2, ![4096, 512]⟩ : Shape).Idx → EReal := fun y =>
  rms (Ideal.ofBits .f32 0x44000000#32) (yCol x w s (y 0) 1536 (by decide)) (fun n : Fin 512 => g (ix1 n)) (y 1)

theorem qNorm_ix (g : (⟨1, ![1536]⟩ : Shape).Idx → EReal) (i : Fin 4096) (n : Fin 1536) :
    qNorm x w s g (ix2 i n) = rms (Ideal.ofBits .f32 0x44C00000#32) (yCol x w s i 0 (by decide)) (fun n : Fin 1536 => g (ix1 n)) n := rfl

theorem cNorm_ix (g : (⟨1, ![512]⟩ : Shape).Idx → EReal) (i : Fin 4096) (n : Fin 512) :
    cNorm x w s g (ix2 i n) = rms (Ideal.ofBits .f32 0x44000000#32) (yCol x w s i 1536 (by decide)) (fun n : Fin 512 => g (ix1 n)) n := rfl

/-- The third result: the last 64 columns of the product. -/
def kPe : (⟨2, ![4096, 64]⟩ : Shape).Idx → EReal := fun y => yCol x w s (y 0) (N := 64) 2048 (by decide) (y 1)

/-- The fourth result: the codes. -/
def codes : (⟨2, ![4096, 5120]⟩ : Shape).Idx → EReal := fun y => rowCode (row x (y 0)) (y 1)

/-- The fifth result: the scales. -/
def scales : (⟨2, ![4096, 40]⟩ : Shape).Idx → EReal := fun y => rowScale (row x (y 0)) (y 1)

/-- Two arrays of rank two that agree at every pair of coordinates are equal. -/
theorem ext2 {a b : ℕ} {α : Type} {f g : (⟨2, ![a, b]⟩ : Shape).Idx → α} (h : ∀ (i : Fin a) (j : Fin b), f (ix2 i j) = g (ix2 i j)) : f = g :=
  funext fun y => by rw [eq_ix2 y]; exact h _ _

end Cert.Spec
-- ==== Proof.StepIdeal.lean ====
module

public import proofs.«01_k».proof.Proof.Values
public import proofs.«01_k».proof.Proof.Spec
public import Idealize.ShloMosaic.Lib.Pointwise

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Spec Cert.KernelIdeal Cert.KernelIdeal.Gen

/-! ## What a step writes, on the extended reals -/

section Consts
theorem c7F7F : Ideal.ofBits .bf16 0x7F7F#16 = 255 * pw 120 := by
  rw [bf16_normal 0x7F7F#16 254 127 rfl rfl rfl (by decide) (by decide), pw_255, EReal.coe_eq_coe_iff]; norm_num
theorem c04E0 : Ideal.ofBits .bf16 0x04E0#16 = 448 * pw (-126) := by
  rw [bf16_normal 0x04E0#16 9 96 rfl rfl rfl (by decide) (by decide), mul_comm 448, pw_448, EReal.coe_eq_coe_iff]; norm_num
theorem c44E0 : Ideal.ofBits .bf16 0x44E0#16 = 224 * pw 3 := by
  rw [bf16_normal 0x44E0#16 137 96 rfl rfl rfl (by decide) (by decide), mul_comm 224, pw_224, EReal.coe_eq_coe_iff]; norm_num
theorem c4360 : Ideal.ofBits .bf16 0x4360#16 = 224 := by
  rw [bf16_normal 0x4360#16 134 96 rfl rfl rfl (by decide) (by decide), ← coe224, EReal.coe_eq_coe_iff]; norm_num
theorem c3F80 : Ideal.ofBits .bf16 0x3F80#16 = 1 := by
  rw [bf16_normal 0x3F80#16 127 0 rfl rfl rfl (by decide) (by decide), ← EReal.coe_one, EReal.coe_eq_coe_iff]; norm_num
theorem cFF80 : Ideal.ofBits .bf16 0xFF80#16 = ⊥ := by
  simp [Ideal.ofBits, Ideal.ieee]
theorem c4100 : Ideal.ofBits .bf16 0x4100#16 = pw 3 := by
  rw [bf16_normal 0x4100#16 130 0 rfl rfl rfl (by decide) (by decide), pw, EReal.coe_eq_coe_iff]; norm_num
theorem c0100 : Ideal.ofBits .bf16 0x0100#16 = pw (-125) := by
  rw [bf16_normal 0x0100#16 2 0 rfl rfl rfl (by decide) (by decide), pw, EReal.coe_eq_coe_iff]; norm_num
theorem c5F80 : Ideal.ofBits .bf16 0x5F80#16 = pw 64 := by
  rw [bf16_normal 0x5F80#16 191 0 rfl rfl rfl (by decide) (by decide), pw, EReal.coe_eq_coe_iff]; norm_num
theorem c4F80 : Ideal.ofBits .bf16 0x4F80#16 = pw 32 := by
  rw [bf16_normal 0x4F80#16 159 0 rfl rfl rfl (by decide) (by decide), pw, EReal.coe_eq_coe_iff]; norm_num
theorem c4780 : Ideal.ofBits .bf16 0x4780#16 = pw 16 := by
  rw [bf16_normal 0x4780#16 143 0 rfl rfl rfl (by decide) (by decide), pw, EReal.coe_eq_coe_iff]; norm_num
theorem c4380 : Ideal.ofBits .bf16 0x4380#16 = pw 8 := by
  rw [bf16_normal 0x4380#16 135 0 rfl rfl rfl (by decide) (by decide), pw, EReal.coe_eq_coe_iff]; norm_num
theorem c4180 : Ideal.ofBits .bf16 0x4180#16 = pw 4 := by
  rw [bf16_normal 0x4180#16 131 0 rfl rfl rfl (by decide) (by decide), pw, EReal.coe_eq_coe_iff]; norm_num
theorem c4080 : Ideal.ofBits .bf16 0x4080#16 = pw 2 := by
  rw [bf16_normal 0x4080#16 129 0 rfl rfl rfl (by decide) (by decide), pw, EReal.coe_eq_coe_iff]; norm_num
theorem c4000 : Ideal.ofBits .bf16 0x4000#16 = pw 1 := by
  rw [bf16_normal 0x4000#16 128 0 rfl rfl rfl (by decide) (by decide), pw, EReal.coe_eq_coe_iff]; norm_num
end Consts

theorem bcst_apply (w : BitVec 16) (y : S256x128.Idx) : (bcst w : FVec Ideal S256x128 .bf16) y = Ideal.ofBits .bf16 w := rfl

theorem select_ite {α : Type} (p : Prop) [Decidable p] (x y : α) : Scalar.select (BitVec.ofBool (decide p)) x y = if p then x else y := by
  unfold Scalar.select
  by_cases h : p <;> simp [h]

theorem sel_olt {s : Shape} {φ : FTy} {α : Type} (a b : FVec Ideal s φ) (u v : s.Idx → α) (y : s.Idx) :
    select (cmpf .olt a b) u v y = if a y < b y then u y else v y := select_ite _ _ _

theorem sel_oge {s : Shape} {φ : FTy} {α : Type} (a b : FVec Ideal s φ) (u v : s.Idx → α) (y : s.Idx) :
    select (cmpf .oge a b) u v y = if b y ≤ a y then u y else v y := select_ite _ _ _

theorem mul_ap {s : Shape} {φ : FTy} (a b : FVec Ideal s φ) (y : s.Idx) : mulf a b y = a y * b y := rfl
theorem div_ap {s : Shape} {φ : FTy} (a b : FVec Ideal s φ) (y : s.Idx) : divf a b y = Ideal.div (a y) (b y) := rfl

variable (x : Vec Ideal S256x128 .bf16) (y : S256x128.Idx)

theorem blkMax_apply : blkMax x y = absMax fun j => x (ix2 (y 0) j) := by
  unfold blkMax absMax
  pointwise
  rw [← cFF80]
  rfl

theorem blkA_apply : blkA x y = cut (absMax fun j => x (ix2 (y 0) j)) := by
  rw [← blkMax_apply x y]
  unfold blkA cut
  rw [sel_olt, bcst_apply, c7F7F]

theorem blkStep_apply (w : BitVec 16) (b : ℤ) (hw : Ideal.ofBits .bf16 w = pw b) (a e : FVec Ideal S256x128 .bf16) : blkStep w a e y = up b (a y) (e y) := by
  unfold blkStep up
  rw [sel_oge, mul_ap, mul_ap, bcst_apply, bcst_apply, hw, c4360]

theorem blkExp_apply (a : FVec Ideal S256x128 .bf16) : blkExp a y = search (a y) := by
  unfold blkExp search
  rw [blkStep_apply y _ 1 c4000, blkStep_apply y _ 2 c4080, blkStep_apply y _ 4 c4180, blkStep_apply y _ 8 c4380, blkStep_apply y _ 16 c4780,
    blkStep_apply y _ 32 c4F80, blkStep_apply y _ 64 c5F80, sel_oge, bcst_apply, bcst_apply, bcst_apply, c44E0, c4100, c0100]

/-- The scale of a block is the scale of its absolute maximum. -/
theorem blkScale_apply : blkScale x y = scaleOf (absMax fun j => x (ix2 (y 0) j)) := by
  rw [← scale_search, ← blkA_apply x y, ← blkExp_apply]
  unfold blkScale
  rw [sel_olt, bcst_apply, bcst_apply, c04E0, c3F80]

theorem blkInv_apply : blkInv x y = Ideal.div 1 (scaleOf (absMax fun j => x (ix2 (y 0) j))) := by
  rw [← inv_search, ← blkA_apply x y, ← blkExp_apply]
  unfold blkInv
  rw [sel_olt, div_ap, bcst_apply, bcst_apply, c04E0, c3F80]

theorem blkCodes_apply : blkCodes x y = min (Ideal.ofBits .f32 0x43E00000#32) (max (Ideal.ofBits .f32 0xC3E00000#32) (x y * Ideal.div 1 (scaleOf (absMax fun j => x (ix2 (y 0) j))))) := by
  rw [← blkInv_apply x y]
  unfold blkCodes
  rw [shapeCast_self]
  rfl

theorem blkXb_apply : blkXb x y = blkCodes x y * scaleOf (absMax fun j => x (ix2 (y 0) j)) := by
  rw [← blkScale_apply x y]
  unfold blkXb
  rw [shapeCast_self]
  rfl

end Cert.KernelIdeal.Hand
-- ==== Proof.StepRow.lean ====
module

public import proofs.«01_k».proof.Proof.StepIdeal
public import Idealize.ShloMosaic.Lib.Pointwise

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Spec Cert.KernelIdeal Cert.KernelIdeal.Gen

/-! ## The results of a step as rows, on the extended reals -/

variable (x0 : Vec Ideal S17x40 .f32) (x1 : Vec Ideal S256x5120 .bf16) (x2 : Vec Ideal S2112x5120 .fp8e4m3)

/-- Row `a` of the step's activations. -/
def rowOf (a : Fin 256) : Fin 5120 → EReal := fun j => x1 (ix2 a j)

/-- The dequantised weight of the arguments. -/
def wOf : Fin 2112 → Fin 5120 → EReal := weight (fun n j => x2 (ix2 n j)) (fun a k => x0 (ix2 a k))

/-- Row `a` of the 128 columns from `o` on. -/
theorem colBlk_row (k : Fin 40) (o : ℕ) (h : o + 128 ≤ 5120) (ho : o = k.val * 128) (a : Fin 256) :
    (fun j : Fin 128 => colBlk x1 o h (ix2 a j)) = fun j => rowOf x1 a (col k j) := by
  subst ho
  funext j
  refine congrArg x1 (funext fun b => Fin.ext ?_)
  match b with
  | ⟨0, _⟩ => exact (by omega : 0 + 1 * a.val = a.val)
  | ⟨1, _⟩ => exact (by omega : k.val * 128 + 1 * j.val = k.val * 128 + j.val)

theorem inBlk_ix (a : Fin 256) (j : Fin 5120) : inBlk (ix2 a j) = ix2 a ⟨j.val % 128, Nat.mod_lt _ (by decide)⟩ :=
  funext fun b => match b with
    | ⟨0, _⟩ => rfl
    | ⟨1, _⟩ => rfl

theorem blk_lt (j : Fin 5120) : j.val / 128 * 128 + 128 ≤ 5120 := by omega

theorem colBlk_at (a : Fin 256) (j : Fin 5120) (h : j.val / 128 * 128 + 128 ≤ 5120) :
    colBlk x1 (j.val / 128 * 128) h (ix2 a ⟨j.val % 128, Nat.mod_lt _ (by decide)⟩) = rowOf x1 a j := by
  refine congrArg x1 (funext fun b => Fin.ext ?_)
  match b with
  | ⟨0, _⟩ => exact (by omega : 0 + 1 * a.val = a.val)
  | ⟨1, _⟩ => exact (by omega : j.val / 128 * 128 + 1 * (j.val % 128) = j.val)

/-- A function of a block of columns, at a column. -/
theorem onBlk_ix {e : EltTy} (f : Vec Ideal S256x128 .bf16 → Vec Ideal S256x128 e) (a : Fin 256) (j : Fin 5120) :
    onBlk f x1 (ix2 a j) = f (colBlk x1 (j.val / 128 * 128) (blk_lt j)) (ix2 a ⟨j.val % 128, Nat.mod_lt _ (by decide)⟩) := by
  unfold onBlk
  rw [inBlk_ix]
  rfl

/-- The codes of a step are the codes of its rows. -/
theorem codes_row (a : Fin 256) (j : Fin 5120) : onBlk (e := .fp8e4m3) blkCodes x1 (ix2 a j) = rowCode (rowOf x1 a) j := by
  rw [onBlk_ix]
  refine (blkCodes_apply _ _).trans ?_
  rw [colBlk_at]
  unfold rowCode rowScale
  rw [← colBlk_row x1 (blk j) (j.val / 128 * 128) (blk_lt j) rfl a]
  rfl

/-- What a step multiplies with, by rows. -/
theorem xb_row (a : Fin 256) (j : Fin 5120) : onBlk (e := .bf16) blkXb x1 (ix2 a j) = rowXb (rowOf x1 a) j := by
  unfold rowXb rowScale
  rw [← codes_row, onBlk_ix, onBlk_ix]
  refine (blkXb_apply _ _).trans ?_
  rw [← colBlk_row x1 (blk j) (j.val / 128 * 128) (blk_lt j) rfl a]
  rfl

theorem extf_ap {s : Shape} {φ ψ : FTy} (v : FVec Ideal s φ) (h : φ.bits < ψ.bits) (y : s.Idx) : (extf ψ v h : FVec Ideal s ψ) y = v y := rfl

/-- The scales of a step are the scales of its rows. -/
theorem scl_row (a : Fin 256) (k : Fin 40) : sclOf x1 (ix2 a k) = rowScale (rowOf x1 a) k := by
  unfold sclOf
  rw [extf_ap]
  refine (blkScale_apply _ _).trans ?_
  unfold rowScale
  rw [← colBlk_row x1 k (k.val * 128) (scl_lt (ix2 a k)) rfl a]
  rfl

/-- The scratch of the weight is the dequantised weight. -/
theorem WB_row (z : S2112x5120.Idx) : WB x0 x2 z = wOf x0 x2 (z 0) (z 1) := by
  show x2 z * x0 (scIdx z) = x2 (ix2 (z 0) (z 1)) * x0 (ix2 _ _)
  rw [← eq_ix2 z]
  congr 2
  funext a
  match a with
  | ⟨0, _⟩ => rfl
  | ⟨1, _⟩ => rfl

/-- Rows `o` on of the dequantised weight. -/
theorem ld_WB_row {n : ℕ} (o : ℕ) (h : ∀ a, (![o, 0] : Fin 2 → Nat) a + (⟨2, ![n, 5120]⟩ : Shape).size a ≤ S2112x5120.size a) (m : Fin n) (j : Fin 5120) (k : Fin 2112) (hk : k.val = o + m.val) :
    (View.ld (WB x0 x2) (Rect.unit (s := S2112x5120) ![o, 0] (⟨2, ![n, 5120]⟩ : Shape).size h)) (ix2 m j) = wOf x0 x2 k j := by
  rw [show wOf x0 x2 k j = wOf x0 x2 ((ix2 k j : S2112x5120.Idx) 0) ((ix2 k j : S2112x5120.Idx) 1) from rfl, ← WB_row]
  refine congrArg (WB x0 x2) (funext fun a => Fin.ext ?_)
  match a with
  | ⟨0, _⟩ => exact (by omega : o + 1 * m.val = k.val)
  | ⟨1, _⟩ => exact (by omega : 0 + 1 * j.val = j.val)

theorem pay500_apply (u : Vec Ideal S256x5120 .bf16) (v : Vec Ideal S512x5120 .bf16) (a : Fin 256) (n : Fin 512) :
    k0_pay500 u v (ix2 a n) = ∑ j : Fin 5120, u (ix2 a j) * v (ix2 n j) := by
  unfold k0_pay500
  pointwise

theorem pay504_apply (u : Vec Ideal S256x5120 .bf16) (v : Vec Ideal S64x5120 .bf16) (a : Fin 256) (n : Fin 64) :
    k0_pay504 u v (ix2 a n) = ∑ j : Fin 5120, u (ix2 a j) * v (ix2 n j) := by
  unfold k0_pay504
  pointwise

/-- The product a step keeps is the product of its rows with the weight. -/
theorem yOf_row (a : Fin 256) (l : Fin 2048) (n : Fin 2112) (hn : n.val = l.val) : yOf x0 x1 x2 (ix2 a l) = rowY (rowOf x1 a) (wOf x0 x2) n := by
  unfold yOf rowY
  refine (congrArg (k0_pay500 _ _) (funext fun b => match b with
    | ⟨0, _⟩ => rfl
    | ⟨1, _⟩ => rfl : _ = ix2 a (⟨l.val % 512, Nat.mod_lt _ (by decide)⟩ : Fin 512))).trans ?_
  rw [pay500_apply]
  refine Finset.sum_congr rfl fun j _ => congr (congrArg _ (xb_row x1 a j)) (ld_WB_row x0 x2 _ _ _ j n ?_)
  show n.val = l.val / 512 * 512 + l.val % 512
  omega

/-- The third result of a step. -/
theorem kpe_row (a : Fin 256) (l : Fin 64) (h : ∀ a, (![2048, 0] : Fin 2 → Nat) a + S64x5120.size a ≤ S2112x5120.size a) (n : Fin 2112) (hn : n.val = 2048 + l.val) :
    k0_pay504 (onBlk blkXb x1) (View.ld (WB x0 x2) (Rect.unit (s := S2112x5120) ![2048, 0] S64x5120.size h)) (ix2 a l) = rowY (rowOf x1 a) (wOf x0 x2) n := by
  unfold rowY
  rw [pay504_apply]
  exact Finset.sum_congr rfl fun j _ => congr (congrArg _ (xb_row x1 a j)) (ld_WB_row x0 x2 _ h _ j n hn)

theorem pay505_apply (v : Vec Ideal S256x1536 .f32) (g : Vec Ideal S1x1536 .bf16) (a : Fin 256) (l : Fin 1536) :
    k0_pay505 v g (ix2 a l) = rms (Ideal.ofBits .f32 0x44C00000#32) (fun n : Fin 1536 => v (ix2 a n)) (fun n => g (ix2 0 n)) l := by
  unfold k0_pay505 rms
  pointwise

theorem pay1_apply (v : Vec Ideal S256x512 .f32) (g : Vec Ideal S1x512 .bf16) (a : Fin 256) (l : Fin 512) :
    k0_pay1 v (k0_pay506 g) (k0_pay507 v) (ix2 a l) = rms (Ideal.ofBits .f32 0x44000000#32) (fun n : Fin 512 => v (ix2 a n)) (fun n => g (ix2 0 n)) l := by
  unfold k0_pay1 k0_pay506 k0_pay507 rms
  pointwise

end Cert.KernelIdeal.Hand
-- ==== Proof.Arrays.lean ====
module

public import proofs.«01_k».proof.Proof.StepRow
public import Idealize.ShloMosaic.Lib.Pointwise
public import Idealize.ShloMosaic.Lib.Pipeline.ValueKit
public import Idealize.ShloMosaic.Lib.StableHlo.Run

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Spec Cert.KernelIdeal Cert.KernelIdeal.Gen

/-! ## The result arrays after the run -/

variable (m : (ℓ : Loc nD τ sig) → Buf (Elt Ideal) ℓ) (ρ : Dev nD → PrngReg) (c : Dev nD)

/-! ### Where the blocks lie -/

/-- The array's row of row `a` of the block of point `t`. -/
def gRow (t : Fin cfg0.N) (a : Fin 256) : Fin 4096 := ⟨t.val * 256 + a.val, by have h : t.val < 16 := Nat.lt_of_lt_of_eq t.isLt N_0; omega⟩

theorem index_1 : ∀ t : Fin grid0.N, win0_1.index t 0 = t.val ∧ win0_1.index t 1 = 0 := by decide +kernel

theorem emb_1 (t : Fin cfg0.N) (a : Fin 256) (n : Fin 5120) : (win0_1.rect t).emb (ix2 a n : S256x5120.Idx) = (ix2 (gRow t a) n : S4096x5120.Idx) := by
  funext b
  apply Fin.ext
  match b with
  | ⟨0, _⟩ => exact (win0_1.rect_emb_val t (ix2 a n : S256x5120.Idx) 0).trans (by rw [(index_1 t).1]; rfl)
  | ⟨1, _⟩ => exact win0_1.rect_emb_val_of_index_zero t 1 (index_1 t).2 (ix2 a n : S256x5120.Idx)

theorem index_5 : ∀ t : Fin grid0.N, win0_5.index t 0 = t.val ∧ win0_5.index t 1 = 0 := by decide +kernel

theorem emb_5 (t : Fin cfg0.N) (a : Fin 256) (n : Fin 1536) : (win0_5.rect t).emb (ix2 a n : S256x1536.Idx) = (ix2 (gRow t a) n : S4096x1536.Idx) := by
  funext b
  apply Fin.ext
  match b with
  | ⟨0, _⟩ => exact (win0_5.rect_emb_val t (ix2 a n : S256x1536.Idx) 0).trans (by rw [(index_5 t).1]; rfl)
  | ⟨1, _⟩ => exact win0_5.rect_emb_val_of_index_zero t 1 (index_5 t).2 (ix2 a n : S256x1536.Idx)

theorem index_6 : ∀ t : Fin grid0.N, win0_6.index t 0 = t.val ∧ win0_6.index t 1 = 0 := by decide +kernel

theorem emb_6 (t : Fin cfg0.N) (a : Fin 256) (n : Fin 512) : (win0_6.rect t).emb (ix2 a n : S256x512.Idx) = (ix2 (gRow t a) n : S4096x512.Idx) := by
  funext b
  apply Fin.ext
  match b with
  | ⟨0, _⟩ => exact (win0_6.rect_emb_val t (ix2 a n : S256x512.Idx) 0).trans (by rw [(index_6 t).1]; rfl)
  | ⟨1, _⟩ => exact win0_6.rect_emb_val_of_index_zero t 1 (index_6 t).2 (ix2 a n : S256x512.Idx)

theorem index_7 : ∀ t : Fin grid0.N, win0_7.index t 0 = t.val ∧ win0_7.index t 1 = 0 := by decide +kernel

theorem emb_7 (t : Fin cfg0.N) (a : Fin 256) (n : Fin 64) : (win0_7.rect t).emb (ix2 a n : S256x64.Idx) = (ix2 (gRow t a) n : S4096x64.Idx) := by
  funext b
  apply Fin.ext
  match b with
  | ⟨0, _⟩ => exact (win0_7.rect_emb_val t (ix2 a n : S256x64.Idx) 0).trans (by rw [(index_7 t).1]; rfl)
  | ⟨1, _⟩ => exact win0_7.rect_emb_val_of_index_zero t 1 (index_7 t).2 (ix2 a n : S256x64.Idx)

theorem index_8 : ∀ t : Fin grid0.N, win0_8.index t 0 = t.val ∧ win0_8.index t 1 = 0 := by decide +kernel

theorem emb_8 (t : Fin cfg0.N) (a : Fin 256) (n : Fin 5120) : (win0_8.rect t).emb (ix2 a n : S256x5120.Idx) = (ix2 (gRow t a) n : S4096x5120.Idx) := by
  funext b
  apply Fin.ext
  match b with
  | ⟨0, _⟩ => exact (win0_8.rect_emb_val t (ix2 a n : S256x5120.Idx) 0).trans (by rw [(index_8 t).1]; rfl)
  | ⟨1, _⟩ => exact win0_8.rect_emb_val_of_index_zero t 1 (index_8 t).2 (ix2 a n : S256x5120.Idx)

theorem index_9 : ∀ t : Fin grid0.N, win0_9.index t 0 = t.val ∧ win0_9.index t 1 = 0 := by decide +kernel

theorem emb_9 (t : Fin cfg0.N) (a : Fin 256) (n : Fin 40) : (win0_9.rect t).emb (ix2 a n : S256x40.Idx) = (ix2 (gRow t a) n : S4096x40.Idx) := by
  funext b
  apply Fin.ext
  match b with
  | ⟨0, _⟩ => exact (win0_9.rect_emb_val t (ix2 a n : S256x40.Idx) 0).trans (by rw [(index_9 t).1]; rfl)
  | ⟨1, _⟩ => exact win0_9.rect_emb_val_of_index_zero t 1 (index_9 t).2 (ix2 a n : S256x40.Idx)

/-! ### What the region reads -/

theorem V_v0 : V m c main_v0 = shapeCast S4096x5120 (m ((c.tc : Thread nD τ).loc main_arg0)) shapeCasts_S1x4096x5120_S4096x5120 := by
  show StableHlo.after hostOps0 _ (Proc.devRef .tc main_v0) = _
  unfold hostOps0
  after_results_simp <;> rfl

theorem V_v1 : V m c main_v1 = shapeCast S1x1536 (m ((c.tc : Thread nD τ).loc main_arg4)) shapeCasts_S1536_S1x1536 := by
  show StableHlo.after hostOps0 _ (Proc.devRef .tc main_v1) = _
  unfold hostOps0
  after_results_simp <;> rfl

theorem V_v2 : V m c main_v2 = shapeCast S1x512 (m ((c.tc : Thread nD τ).loc main_arg3)) shapeCasts_S512_S1x512 := by
  show StableHlo.after hostOps0 _ (Proc.devRef .tc main_v2) = _
  unfold hostOps0
  after_results_simp <;> rfl

theorem dropUnit_x (X : Vec Ideal S1x4096x5120 .bf16) (i : Fin 4096) (j : Fin 5120) :
    (shapeCast S4096x5120 X shapeCasts_S1x4096x5120_S4096x5120 : Vec Ideal S4096x5120 .bf16) (ix2 i j) = X (ix3 0 i j) := by
  pointwise

/-- Row `a` of the activations at point `t`. -/
theorem iblk_1 (t : Fin cfg0.N) (a : Fin 256) : rowOf (iblk m c 1 t) a = row (m ((c.tc : Thread nD τ).loc main_arg0)) (gRow t a) := by
  funext j
  show V m c main_v0 ((win0_1.rect t).emb (ix2 a j : S256x5120.Idx)) = _
  rw [emb_1, V_v0]
  exact dropUnit_x _ _ _

/-- Window 0 is its whole array at every point. -/
theorem iblk_0 (t : Fin cfg0.N) : (iblk m c 0 t : Vec Ideal S17x40 .f32) = V m c main_arg2 := by
  funext y
  show V m c main_arg2 ((win0_0.rect t).emb y) = _
  refine congrArg (V m c main_arg2) (funext fun a => Fin.ext ?_)
  match a with
  | ⟨0, _⟩ => exact win0_0.rect_emb_val_of_index_zero t 0 rfl y
  | ⟨1, _⟩ => exact win0_0.rect_emb_val_of_index_zero t 1 rfl y

/-- Window 2 is its whole array at every point. -/
theorem iblk_2 (t : Fin cfg0.N) : (iblk m c 2 t : Vec Ideal S2112x5120 .fp8e4m3) = V m c main_arg1 := by
  funext y
  show V m c main_arg1 ((win0_2.rect t).emb y) = _
  refine congrArg (V m c main_arg1) (funext fun a => Fin.ext ?_)
  match a with
  | ⟨0, _⟩ => exact win0_2.rect_emb_val_of_index_zero t 0 rfl y
  | ⟨1, _⟩ => exact win0_2.rect_emb_val_of_index_zero t 1 rfl y

/-- Window 3 is its whole array at every point. -/
theorem iblk_3 (t : Fin cfg0.N) : (iblk m c 3 t : Vec Ideal S1x1536 .bf16) = V m c main_v1 := by
  funext y
  show V m c main_v1 ((win0_3.rect t).emb y) = _
  refine congrArg (V m c main_v1) (funext fun a => Fin.ext ?_)
  match a with
  | ⟨0, _⟩ => exact win0_3.rect_emb_val_of_index_zero t 0 rfl y
  | ⟨1, _⟩ => exact win0_3.rect_emb_val_of_index_zero t 1 rfl y

/-- Window 4 is its whole array at every point. -/
theorem iblk_4 (t : Fin cfg0.N) : (iblk m c 4 t : Vec Ideal S1x512 .bf16) = V m c main_v2 := by
  funext y
  show V m c main_v2 ((win0_4.rect t).emb y) = _
  refine congrArg (V m c main_v2) (funext fun a => Fin.ext ?_)
  match a with
  | ⟨0, _⟩ => exact win0_4.rect_emb_val_of_index_zero t 0 rfl y
  | ⟨1, _⟩ => exact win0_4.rect_emb_val_of_index_zero t 1 rfl y

theorem addUnit_q (X : Vec Ideal S1536 .bf16) (n : Fin 1536) : (shapeCast S1x1536 X shapeCasts_S1536_S1x1536 : Vec Ideal S1x1536 .bf16) (ix2 0 n) = X (ix1 n) := by
  pointwise

theorem addUnit_c (X : Vec Ideal S512 .bf16) (n : Fin 512) : (shapeCast S1x512 X shapeCasts_S512_S1x512 : Vec Ideal S1x512 .bf16) (ix2 0 n) = X (ix1 n) := by
  pointwise

theorem gain_q (t : Fin cfg0.N) : (fun n : Fin 1536 => (iblk m c 3 t : Vec Ideal S1x1536 .bf16) (ix2 0 n)) = fun n => m ((c.tc : Thread nD τ).loc main_arg4) (ix1 n) := by
  funext n
  rw [iblk_3, V_v1]
  exact addUnit_q _ _

theorem gain_c (t : Fin cfg0.N) : (fun n : Fin 512 => (iblk m c 4 t : Vec Ideal S1x512 .bf16) (ix2 0 n)) = fun n => m ((c.tc : Thread nD τ).loc main_arg3) (ix1 n) := by
  funext n
  rw [iblk_4, V_v2]
  exact addUnit_c _ _

theorem wOf_eq (t : Fin cfg0.N) : wOf (iblk m c 0 t) (iblk m c 2 t) = wt (m ((c.tc : Thread nD τ).loc main_arg1)) (m ((c.tc : Thread nD τ).loc main_arg2)) := by
  rw [iblk_0, iblk_2, V_main_arg2, V_main_arg1]
  rfl

/-! ### The five arrays -/

/-- Columns `o` on of the product a step keeps. -/
theorem yOf_part (t : Fin cfg0.N) (a : Fin 256) {N : ℕ} (o : ℕ) (h : ∀ b, (![0, o] : Fin 2 → Nat) b + (⟨2, ![256, N]⟩ : Shape).size b ≤ S256x2048.size b) (h' : o + N ≤ 2112) (n : Fin N) :
    yOf (iblk m c 0 t) (iblk m c 1 t) (iblk m c 2 t) ((Rect.unit (s := S256x2048) ![0, o] (⟨2, ![256, N]⟩ : Shape).size h).emb (ix2 a n))
      = yCol (m ((c.tc : Thread nD τ).loc main_arg0)) (m ((c.tc : Thread nD τ).loc main_arg1)) (m ((c.tc : Thread nD τ).loc main_arg2)) (gRow t a) o h' n := by
  have hl : o + n.val < 2048 := Nat.lt_of_lt_of_le (Nat.add_lt_add_left n.isLt o) (h 1)
  have e : (Rect.unit (s := S256x2048) ![0, o] (⟨2, ![256, N]⟩ : Shape).size h).emb (ix2 a n) = (ix2 a ⟨o + n.val, hl⟩ : S256x2048.Idx) := by
    refine funext fun b => Fin.ext ?_
    match b with
    | ⟨0, _⟩ => exact (by omega : 0 + 1 * a.val = a.val)
    | ⟨1, _⟩ => exact (by omega : o + 1 * n.val = o + n.val)
  rw [e, yOf_row (iblk m c 0 t) (iblk m c 1 t) (iblk m c 2 t) a ⟨o + n.val, hl⟩ ⟨o + n.val, by omega⟩ rfl, iblk_1, wOf_eq]
  rfl

theorem pay_q (Y : Vec Ideal S256x2048 .f32) (g : Vec Ideal S1x1536 .bf16) (a : Fin 256) (l : Fin 1536) (v : Fin 1536 → EReal)
    (hv : ∀ n : Fin 1536, Y ((Rect.unit (s := S256x2048) ![0, 0] S256x1536.size inb_S256x2048_S256x1536_0_0).emb (ix2 a n)) = v n) :
    k0_pay505 (fun j => Y ((Rect.unit (s := S256x2048) ![0, 0] S256x1536.size inb_S256x2048_S256x1536_0_0).emb j)) g (ix2 a l)
      = rms (Ideal.ofBits .f32 0x44C00000#32) v (fun n => g (ix2 0 n)) l := by
  rw [pay505_apply]
  exact congrArg (fun v : Fin 1536 → EReal => rms _ v _ l) (funext hv)

/-- What point `t` leaves in window 5. -/
theorem oat_5_apply (t : Fin cfg0.N) (a : Fin 256) (n : Fin 1536) :
    (oat_5 m c t : Vec Ideal S256x1536 .bf16) (ix2 a n) = qNorm (m ((c.tc : Thread nD τ).loc main_arg0)) (m ((c.tc : Thread nD τ).loc main_arg1)) (m ((c.tc : Thread nD τ).loc main_arg2)) (m ((c.tc : Thread nD τ).loc main_arg4)) (ix2 (gRow t a) n) := by
  unfold oat_5
  rw [out_5_eq]
  refine (pay_q _ _ a n _ fun n => yOf_part m c t a 0 _ (by decide) n).trans ?_
  rw [gain_q, qNorm_ix]

/-- Result array 0 after the run. -/
theorem final_5 : (dats m 0 c).arrAt 5 cfg0.N = qNorm (m ((c.tc : Thread nD τ).loc main_arg0)) (m ((c.tc : Thread nD τ).loc main_arg1)) (m ((c.tc : Thread nD τ).loc main_arg2)) (m ((c.tc : Thread nD τ).loc main_arg4)) := by
  refine (dats m 0 c).arrAt_eq_of_covers 5 _ (by decide +kernel : win0_5.Covers) fun t _ y => ?_
  obtain ⟨a, n, rfl⟩ : ∃ (a : Fin 256) (n : Fin 1536), y = (ix2 a n : S256x1536.Idx) := ⟨y 0, y 1, eq_ix2 y⟩
  have e : (dats m 0 c).after 5 t (ix2 a n) = oat_5 m c t (ix2 a n) := congrFun (after_5 m c t) _
  exact e.trans ((oat_5_apply m c t a n).trans (congrArg (qNorm (m ((c.tc : Thread nD τ).loc main_arg0)) (m ((c.tc : Thread nD τ).loc main_arg1)) (m ((c.tc : Thread nD τ).loc main_arg2)) (m ((c.tc : Thread nD τ).loc main_arg4))) (emb_5 t a n).symm))

theorem pay_c (Y : Vec Ideal S256x2048 .f32) (g : Vec Ideal S1x512 .bf16) (a : Fin 256) (l : Fin 512) (v : Fin 512 → EReal)
    (hv : ∀ n : Fin 512, Y ((Rect.unit (s := S256x2048) ![0, 1536] S256x512.size inb_S256x2048_S256x512_0_1536).emb (ix2 a n)) = v n) :
    k0_pay1 (fun j => Y ((Rect.unit (s := S256x2048) ![0, 1536] S256x512.size inb_S256x2048_S256x512_0_1536).emb j)) (k0_pay506 g) (k0_pay507 (fun j => Y ((Rect.unit (s := S256x2048) ![0, 1536] S256x512.size inb_S256x2048_S256x512_0_1536).emb j))) (ix2 a l)
      = rms (Ideal.ofBits .f32 0x44000000#32) v (fun n => g (ix2 0 n)) l := by
  rw [pay1_apply]
  exact congrArg (fun v : Fin 512 → EReal => rms _ v _ l) (funext hv)

/-- What point `t` leaves in window 6. -/
theorem oat_6_apply (t : Fin cfg0.N) (a : Fin 256) (n : Fin 512) :
    (oat_6 m c t : Vec Ideal S256x512 .bf16) (ix2 a n) = cNorm (m ((c.tc : Thread nD τ).loc main_arg0)) (m ((c.tc : Thread nD τ).loc main_arg1)) (m ((c.tc : Thread nD τ).loc main_arg2)) (m ((c.tc : Thread nD τ).loc main_arg3)) (ix2 (gRow t a) n) := by
  unfold oat_6
  rw [out_6_eq]
  refine (pay_c _ _ a n _ fun n => yOf_part m c t a 1536 _ (by decide) n).trans ?_
  rw [gain_c, cNorm_ix]

/-- Result array 1 after the run. -/
theorem final_6 : (dats m 0 c).arrAt 6 cfg0.N = cNorm (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 6 _ (by decide +kernel : win0_6.Covers) fun t _ y => ?_
  obtain ⟨a, n, rfl⟩ : ∃ (a : Fin 256) (n : Fin 512), y = (ix2 a n : S256x512.Idx) := ⟨y 0, y 1, eq_ix2 y⟩
  have e : (dats m 0 c).after 6 t (ix2 a n) = oat_6 m c t (ix2 a n) := congrFun (after_6 m c t) _
  exact e.trans ((oat_6_apply m c t a n).trans (congrArg (cNorm (m ((c.tc : Thread nD τ).loc main_arg0)) (m ((c.tc : Thread nD τ).loc main_arg1)) (m ((c.tc : Thread nD τ).loc main_arg2)) (m ((c.tc : Thread nD τ).loc main_arg3))) (emb_6 t a n).symm))

/-- What point `t` leaves in window 7. -/
theorem oat_7_apply (t : Fin cfg0.N) (a : Fin 256) (n : Fin 64) :
    (oat_7 m c t : Vec Ideal S256x64 .bf16) (ix2 a n) = kPe (m ((c.tc : Thread nD τ).loc main_arg0)) (m ((c.tc : Thread nD τ).loc main_arg1)) (m ((c.tc : Thread nD τ).loc main_arg2)) (ix2 (gRow t a) n) := by
  unfold oat_7
  rw [out_7_eq]
  rw [kpe_row (iblk m c 0 t) (iblk m c 1 t) (iblk m c 2 t) a n _ ⟨2048 + n.val, by omega⟩ rfl, iblk_1, wOf_eq]
  rfl

/-- Result array 2 after the run. -/
theorem final_7 : (dats m 0 c).arrAt 7 cfg0.N = kPe (m ((c.tc : Thread nD τ).loc main_arg0)) (m ((c.tc : Thread nD τ).loc main_arg1)) (m ((c.tc : Thread nD τ).loc main_arg2)) := by
  refine (dats m 0 c).arrAt_eq_of_covers 7 _ (by decide +kernel : win0_7.Covers) fun t _ y => ?_
  obtain ⟨a, n, rfl⟩ : ∃ (a : Fin 256) (n : Fin 64), y = (ix2 a n : S256x64.Idx) := ⟨y 0, y 1, eq_ix2 y⟩
  have e : (dats m 0 c).after 7 t (ix2 a n) = oat_7 m c t (ix2 a n) := congrFun (after_7 m c t) _
  exact e.trans ((oat_7_apply m c t a n).trans (congrArg (kPe (m ((c.tc : Thread nD τ).loc main_arg0)) (m ((c.tc : Thread nD τ).loc main_arg1)) (m ((c.tc : Thread nD τ).loc main_arg2))) (emb_7 t a n).symm))

/-- What point `t` leaves in window 8. -/
theorem oat_8_apply (t : Fin cfg0.N) (a : Fin 256) (n : Fin 5120) :
    (oat_8 m c t : Vec Ideal S256x5120 .fp8e4m3) (ix2 a n) = codes (m ((c.tc : Thread nD τ).loc main_arg0)) (ix2 (gRow t a) n) := by
  unfold oat_8
  rw [out_8_eq]
  rw [codes_row (iblk m c 1 t), iblk_1]
  rfl

/-- Result array 3 after the run. -/
theorem final_8 : (dats m 0 c).arrAt 8 cfg0.N = codes (m ((c.tc : Thread nD τ).loc main_arg0)) := by
  refine (dats m 0 c).arrAt_eq_of_covers 8 _ (by decide +kernel : win0_8.Covers) fun t _ y => ?_
  obtain ⟨a, n, rfl⟩ : ∃ (a : Fin 256) (n : Fin 5120), y = (ix2 a n : S256x5120.Idx) := ⟨y 0, y 1, eq_ix2 y⟩
  have e : (dats m 0 c).after 8 t (ix2 a n) = oat_8 m c t (ix2 a n) := congrFun (after_8 m c t) _
  exact e.trans ((oat_8_apply m c t a n).trans (congrArg (codes (m ((c.tc : Thread nD τ).loc main_arg0))) (emb_8 t a n).symm))

/-- What point `t` leaves in window 9. -/
theorem oat_9_apply (t : Fin cfg0.N) (a : Fin 256) (n : Fin 40) :
    (oat_9 m c t : Vec Ideal S256x40 .f32) (ix2 a n) = scales (m ((c.tc : Thread nD τ).loc main_arg0)) (ix2 (gRow t a) n) := by
  unfold oat_9
  rw [out_9_eq]
  rw [scl_row (iblk m c 1 t), iblk_1]
  rfl

/-- Result array 4 after the run. -/
theorem final_9 : (dats m 0 c).arrAt 9 cfg0.N = scales (m ((c.tc : Thread nD τ).loc main_arg0)) := by
  refine (dats m 0 c).arrAt_eq_of_covers 9 _ (by decide +kernel : win0_9.Covers) fun t _ y => ?_
  obtain ⟨a, n, rfl⟩ : ∃ (a : Fin 256) (n : Fin 40), y = (ix2 a n : S256x40.Idx) := ⟨y 0, y 1, eq_ix2 y⟩
  have e : (dats m 0 c).after 9 t (ix2 a n) = oat_9 m c t (ix2 a n) := congrFun (after_9 m c t) _
  exact e.trans ((oat_9_apply m c t a n).trans (congrArg (scales (m ((c.tc : Thread nD τ).loc main_arg0))) (emb_9 t a n).symm))

/-- The run of the kernel: each result array at its function of the arguments, the arguments unchanged. -/
theorem value_run : θ_run defs (onTc (τ := τ) (main (F := Ideal))) ⟨m, fun _ => 0, ρ⟩ (fun r => ∀ c : Dev nD,
      r.2.mem ((c.tc : Thread nD τ).loc main_v3_0) = qNorm (m ((c.tc : Thread nD τ).loc main_arg0)) (m ((c.tc : Thread nD τ).loc main_arg1)) (m ((c.tc : Thread nD τ).loc main_arg2)) (m ((c.tc : Thread nD τ).loc main_arg4))
      ∧ r.2.mem ((c.tc : Thread nD τ).loc main_v3_1) = cNorm (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v3_2) = kPe (m ((c.tc : Thread nD τ).loc main_arg0)) (m ((c.tc : Thread nD τ).loc main_arg1)) (m ((c.tc : Thread nD τ).loc main_arg2))
      ∧ r.2.mem ((c.tc : Thread nD τ).loc main_v3_3) = codes (m ((c.tc : Thread nD τ).loc main_arg0))
      ∧ r.2.mem ((c.tc : Thread nD τ).loc main_v3_4) = scales (m ((c.tc : Thread nD τ).loc main_arg0))) :=
  (θ_run defs _ _).mono (fun _ h c => ⟨((h c).1 5).trans (final_5 m c), ((h c).1 6).trans (final_6 m c), ((h c).1 7).trans (final_7 m c),
    ((h c).1 8).trans (final_8 m c), ((h c).1 9).trans (final_9 m c)⟩) (run_main m ρ)

end Cert.KernelIdeal.Hand
-- ==== Proof.KernelDequant.lean ====
/- The lemmas of Proof/Dequant.lean for the kernel as printed, before idealization: the same text over the other program's
   names, from which its frame follows. -/
module

public import proofs.«01_k».proof.Proof.Gen.Kernel.Skeleton
public import proofs.«01_k».proof.Proof.Gen.Kernel.Loops
public import Idealize.ShloMosaic.Lib.Exec
public import Idealize.ShloMosaic.Lib.Tactic
public import Idealize.ShloMosaic.Lib.Pipeline.Kit
public import Idealize.ShloMosaic.Lib.Pipeline.FrameBody
public import Idealize.ShloMosaic.Lib.Pipeline.Value
public import Idealize.ShloMosaic.Lib.Pipeline.ReadBack

@[expose] public section

set_option maxRecDepth 8192
set_option maxHeartbeats 4000000

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Gen

variable {F : FTy → Type} [FloatOps F]

local notation "𝕄G" => MT nD τ sig Unit (Elt F) ℕ (UR sig nD τ) ℕ

/-- A block of `n` rows and 128 columns. -/
abbrev SN (n : ℕ) : Shape := ⟨2, ![n, 128]⟩

/-- What one trip of a weight loop stores: the block of codes times its scale. -/
def dqPay (n : ℕ) (hc : (SN n).ShapeCasts (SN n)) (s : Elt F .f32) (w : Vec F (SN n) .fp8e4m3) : FVec F (SN n) .bf16 :=
  shapeCast (SN n) (mulf (extf .bf16 w bitsLt_fp8e4m3_bf16)
    (broadcast (SN n) (Scalar.truncf .bf16 bitsLt_bf16_f32 s))) hc

/-- One trip of a weight loop, over its offsets. -/
def dqBody (n : ℕ) (hn : 0 < (SN n).numel) (hc : (SN n).ShapeCasts (SN n))
    (arg1 : Memref sig .tc .smem S17x40 .f32) (arg3 : Memref sig .tc .vmem S2112x5120 .fp8e4m3)
    (arg11 : Memref sig .tc .vmem S2112x5120 .bf16) (harg11 : arg11.IsWhole) (o1 o2 : Fin 2 → Nat)
    (h1 : ∀ a, o1 a + S1x1.size a ≤ S17x40.size a) (h2 : ∀ a, o2 a + (SN n).size a ≤ S2112x5120.size a)
    (hp : (Rect.unit (s := S2112x5120) o2 (SN n).size h2).PackedRows (EltTy.packing .bf16)) :
    Prog (TpuEff nD τ sig (Elt F) Λ₀ .tc) Unit := do
  let s : Elt F .f32 ← smemLoad arg1 (Rect.unit (s := S17x40) o1 S1x1.size h1) numel1_S1x1 rfl
  let w : Vec F (SN n) .fp8e4m3 ← Prog.lift (.load arg3 (Rect.unit (s := S2112x5120) o2 (SN n).size h2).toLoadRect (View.loadsAt_vmem hn))
  let _d : Vec F (SN n) .bf16 ← Prog.lift (.load arg11 (Rect.unit (s := S2112x5120) o2 (SN n).size h2).toLoadRect (View.loadsAt_vmem hn))
  Prog.lift (.store arg11 (Rect.unit (s := S2112x5120) o2 (SN n).size h2) (dqPay n hc s w) Finset.univ
    (View.stores_vmem hn (harg11.storeExact_slice rfl _ hp) (fun _ => rfl)) (.inl rfl))
  pure ⟨⟩

/-- What one trip leaves: its block written into the scratch. -/
def dqBody_wp (𝒱 : Variants) (c : Dev nD) (bd : Option 𝒱.V) (n : ℕ) (hn : 0 < (SN n).numel) (hc : (SN n).ShapeCasts (SN n))
    (arg1 : Memref sig .tc .smem S17x40 .f32) (arg3 : Memref sig .tc .vmem S2112x5120 .fp8e4m3)
    (arg11 : Memref sig .tc .vmem S2112x5120 .bf16) (harg11 : arg11.IsWhole) (o1 o2 : Fin 2 → Nat)
    (h1 : ∀ a, o1 a + S1x1.size a ≤ S17x40.size a) (h2 : ∀ a, o2 a + (SN n).size a ≤ S2112x5120.size a)
    (hp : (Rect.unit (s := S2112x5120) o2 (SN n).size h2).PackedRows (EltTy.packing .bf16))
    (X1 : BufTy.Contents (Elt F) arg1.view.ty) (X3 : BufTy.Contents (Elt F) arg3.view.ty) :
    { L : List (View.Piece (Elt F) S2112x5120 .bf16) // ∀ (E : Set ℕ) (f : BufTy.Contents (Elt F) arg11.view.ty),
    (iprop((arg1.view.loc (c : Thread nD τ) ↦[arg1.view.set]{fullShare} X1) ∗ (arg3.view.loc (c : Thread nD τ) ↦[arg3.view.set]{fullShare} X3) ∗ (arg11.view.loc (c : Thread nD τ) ↦[arg11.view.set]{fullShare} f)) : sProp 𝕄G)
      ⊢ wp frame (wpE (defs₀ (F := F)) 𝒱 (c : Thread nD τ) bd) E
          (dqBody n hn hc arg1 arg3 arg11 harg11 o1 o2 h1 h2 hp)
          (fun _ => iprop((arg1.view.loc (c : Thread nD τ) ↦[arg1.view.set]{fullShare} X1) ∗ (arg3.view.loc (c : Thread nD τ) ↦[arg3.view.set]{fullShare} X3)
            ∗ (arg11.view.loc (c : Thread nD τ) ↦[arg11.view.set]{fullShare} arg11.view.writes (Elt F) f L))) } := by
  refine ⟨?_, fun E f => ?run⟩
  case run =>
    unfold dqBody
    iintro ⟨HR_arg1, HR_arg3, HW_arg11⟩
    sl_exec
    sl_step
    sl_close

/-- The scale of an element of the weight: the one of its 128×128 block. -/
def scIdx (y : S2112x5120.Idx) : S17x40.Idx := fun a =>
  ⟨(y a).val / 128, by
    match a with
    | ⟨0, _⟩ => have h : (y 0).val < 2112 := (y 0).isLt; show (y 0).val / 128 < 17; omega
    | ⟨1, _⟩ => have h : (y 1).val < 5120 := (y 1).isLt; show (y 1).val / 128 < 40; omega⟩

/-- The dequantised weight: each code times the scale of its block, in bf16. -/
def WB (x0 : S17x40.Idx → Elt F .f32) (x2 : S2112x5120.Idx → Elt F .fp8e4m3) (y : S2112x5120.Idx) : Elt F .bf16 :=
  FloatOps.mulf (φ := .bf16) (FloatOps.extf (φ := .fp8e4m3) .bf16 bitsLt_fp8e4m3_bf16 (x2 y)) (Scalar.truncf .bf16 bitsLt_bf16_f32 (x0 (scIdx y)))

/-- The scratch is the dequantised weight in the first `nb` rows of blocks, and in the next one up to block `k`. -/
def Good (x0 : S17x40.Idx → Elt F .f32) (x2 : S2112x5120.Idx → Elt F .fp8e4m3) (nb k : ℕ) (d : S2112x5120.Idx → Elt F .bf16) : Prop :=
  ∀ y : S2112x5120.Idx, ((y 0).val < 128 * nb ∨ ((y 0).val < 128 * (nb + 1) ∧ (y 1).val < 128 * k)) → d y = WB x0 x2 y

theorem Good.next {x0 : S17x40.Idx → Elt F .f32} {x2 : S2112x5120.Idx → Elt F .fp8e4m3} {nb : ℕ} {d : S2112x5120.Idx → Elt F .bf16}
    (h : Good x0 x2 nb 40 d) : Good x0 x2 (nb + 1) 0 d := fun y hy => h y (by
  have h1 : (y 1).val < 5120 := (y 1).isLt
  omega)

/-- The piece a trip writes, read at an index: the dequantised weight there. -/
theorem dqBody_piece (𝒱 : Variants) (c : Dev nD) (bd : Option 𝒱.V) (n : ℕ) (hn : 0 < (SN n).numel) (hc : (SN n).ShapeCasts (SN n))
    (arg1 : Memref sig .tc .smem S17x40 .f32) (arg3 : Memref sig .tc .vmem S2112x5120 .fp8e4m3)
    (arg11 : Memref sig .tc .vmem S2112x5120 .bf16) (harg11 : arg11.IsWhole) (o1 o2 : Fin 2 → Nat)
    (h1 : ∀ a, o1 a + S1x1.size a ≤ S17x40.size a) (h2 : ∀ a, o2 a + (SN n).size a ≤ S2112x5120.size a)
    (hp : (Rect.unit (s := S2112x5120) o2 (SN n).size h2).PackedRows (EltTy.packing .bf16))
    (X1 : BufTy.Contents (Elt F) arg1.view.ty) (X3 : BufTy.Contents (Elt F) arg3.view.ty)
    (hn128 : n ≤ 128) (nb k : ℕ) (ho1 : o1 = ![nb, k]) (ho2 : o2 = ![128 * nb, 128 * k])
    (hcov : ∀ r < 2112, r < 128 * (nb + 1) → r < 128 * nb + n)
    (f : BufTy.Contents (Elt F) arg11.view.ty)
    (hf : Good (arg1.view.read (Elt F) X1) (arg3.view.read (Elt F) X3) nb k (arg11.view.read (Elt F) f)) :
    Good (arg1.view.read (Elt F) X1) (arg3.view.read (Elt F) X3) nb (k + 1)
      (arg11.view.read (Elt F) (arg11.view.writes (Elt F) f (dqBody_wp 𝒱 c bd n hn hc arg1 arg3 arg11 harg11 o1 o2 h1 h2 hp X1 X3).1)) := by
  subst ho1 ho2
  unfold dqBody_wp
  dsimp only
  intro y hy
  have hy0 : (y 0).val < 2112 := (y 0).isLt
  by_cases hm : 128 * nb ≤ (y 0).val ∧ 128 * k ≤ (y 1).val ∧ (y 1).val < 128 * (k + 1) ∧ (y 0).val < 128 * nb + n
  · refine View.read_writes_apply_of_pieces arg11.view f (WB (arg1.view.read (Elt F) X1) (arg3.view.read (Elt F) X3)) _ ?_ y ?_
    · intro p hp x
      rw [List.mem_singleton] at hp
      subst hp
      have hx0 : (x 0).val < n := (x 0).isLt
      have hx1 : (x 1).val < 128 := (x 1).isLt
      show dqPay n hc _ _ x = _
      unfold dqPay
      rw [shapeCast_self]
      have hs : dqBody_wp.sl.r arg1 ![nb, k] h1 X1
          = arg1.view.read (Elt F) X1 (scIdx ((Rect.unit (s := S2112x5120) ![128 * nb, 128 * k] (SN n).size h2).emb x)) := by
        refine congrArg (arg1.view.read (Elt F) X1) ?_
        funext a
        apply Fin.ext
        match a with
        | ⟨0, _⟩ => show nb + 1 * 0 = (128 * nb + 1 * (x 0).val) / 128; omega
        | ⟨1, _⟩ => show k + 1 * 0 = (128 * k + 1 * (x 1).val) / 128; omega
      rw [hs]
      rfl
    · refine ⟨_, List.mem_singleton.mpr rfl, ?_⟩
      rw [Rect.mem_set_unit]
      intro a
      match a with
      | ⟨0, _⟩ => exact ⟨hm.1, hm.2.2.2⟩
      | ⟨1, _⟩ => exact ⟨hm.2.1, by show (y 1).val < 128 * k + 128; omega⟩
  · rw [View.read_writes_apply_of_forall_not_mem]
    · have := hcov _ hy0
      exact hf y (by omega)
    · intro p hp hmem
      rw [List.mem_singleton] at hp
      subst hp
      rw [Rect.mem_set_unit] at hmem
      have m0 : 128 * nb ≤ (y 0).val ∧ (y 0).val < 128 * nb + n := hmem 0
      have m1 : 128 * k ≤ (y 1).val ∧ (y 1).val < 128 * k + 128 := hmem 1
      omega

/-- What a weight loop keeps: the scales, the codes, and the scratch dequantised so far. -/
abbrev HW (c : Dev nD) (arg1 : Memref sig .tc .smem S17x40 .f32) (arg3 : Memref sig .tc .vmem S2112x5120 .fp8e4m3)
    (arg11 : Memref sig .tc .vmem S2112x5120 .bf16) (X1 : BufTy.Contents (Elt F) arg1.view.ty) (X3 : BufTy.Contents (Elt F) arg3.view.ty) (nb k : ℕ) : sProp 𝕄G :=
  iprop((arg1.view.loc (c : Thread nD τ) ↦[arg1.view.set]{fullShare} X1) ∗ (arg3.view.loc (c : Thread nD τ) ↦[arg3.view.set]{fullShare} X3)
    ∗ (∃ f, (arg11.view.loc (c : Thread nD τ) ↦[arg11.view.set]{fullShare} f)
      ∗ ⌜Good (arg1.view.read (Elt F) X1) (arg3.view.read (Elt F) X3) nb k (arg11.view.read (Elt F) f)⌝))

/-- One weight loop: one more row of blocks is dequantised. -/
theorem loop_wp (𝒱 : Variants) (c : Dev nD) (bd : Option 𝒱.V) (E : Set ℕ) (n : ℕ) (hn : 0 < (SN n).numel) (hc : (SN n).ShapeCasts (SN n))
    (arg1 : Memref sig .tc .smem S17x40 .f32) (arg3 : Memref sig .tc .vmem S2112x5120 .fp8e4m3)
    (arg11 : Memref sig .tc .vmem S2112x5120 .bf16) (harg11 : arg11.IsWhole) (ok : k0_t1_loop.OK) (o1 o2 : Fin k0_t1_loop.trips → Fin 2 → Nat)
    (h1 : ∀ k a, o1 k a + S1x1.size a ≤ S17x40.size a) (h2 : ∀ k a, o2 k a + (SN n).size a ≤ S2112x5120.size a)
    (hp : ∀ k, (Rect.unit (s := S2112x5120) (o2 k) (SN n).size (h2 k)).PackedRows (EltTy.packing .bf16))
    (X1 : BufTy.Contents (Elt F) arg1.view.ty) (X3 : BufTy.Contents (Elt F) arg3.view.ty)
    (hn128 : n ≤ 128) (nb : ℕ) (ho1 : ∀ k, o1 k = ![nb, k.val]) (ho2 : ∀ k, o2 k = ![128 * nb, 128 * k.val])
    (hcov : ∀ r < 2112, r < 128 * (nb + 1) → r < 128 * nb + n) :
    HW (F := F) c arg1 arg3 arg11 X1 X3 nb 0 ⊢ wp frame (wpE (defs₀ (F := F)) 𝒱 (c : Thread nD τ) bd) E
      (Scf.Loop.for k0_t1_loop ok ⟨⟩ (fun k (_ : Unit) => dqBody n hn hc arg1 arg3 arg11 harg11 (o1 k) (o2 k) (h1 k) (h2 k) (hp k)))
      (fun _ => HW (F := F) c arg1 arg3 arg11 X1 X3 (nb + 1) 0) := by
  have ht : k0_t1_loop.trips = 40 := by decide
  iintro H
  iapply (Scf.wp_for Idealize.ShloMosaic.frame (wpE (defs₀ (F := F)) 𝒱 (c : Thread nD τ) bd) E k0_t1_loop.lb k0_t1_loop.ub k0_t1_loop.st ok ⟨⟩ _
    (fun k _ => HW (F := F) c arg1 arg3 arg11 X1 X3 nb k))
  · intro k acc
    iintro ⟨H1, H3, ⟨%f, H11, %hf⟩⟩
    iapply (wp_wand_r Idealize.ShloMosaic.frame (wpE (defs₀ (F := F)) 𝒱 (c : Thread nD τ) bd) E)
    isplitl [H1 H3 H11]
    · iapply ((dqBody_wp (F := F) 𝒱 c bd n hn hc arg1 arg3 arg11 harg11 (o1 k) (o2 k) (h1 k) (h2 k) (hp k) X1 X3).2 E f)
      isplitl [H1]; · iexact H1
      isplitl [H3]; · iexact H3
      iexact H11
    · iintro %_ ⟨H1, H3, H11⟩
      isplitl [H1]; · iexact H1
      isplitl [H3]; · iexact H3
      iexists _; isplitl [H11]; · iexact H11
      ipureintro
      exact dqBody_piece (F := F) 𝒱 c bd n hn hc arg1 arg3 arg11 harg11 (o1 k) (o2 k) (h1 k) (h2 k) (hp k) X1 X3 hn128 nb k.val (ho1 k) (ho2 k) hcov f hf
  · isplitl [H]; · iexact H
    iintro %acc ⟨H1, H3, ⟨%f, H11, %hf⟩⟩
    isplitl [H1]; · iexact H1
    isplitl [H3]; · iexact H3
    iexists f; isplitl [H11]; · iexact H11
    ipureintro
    refine Good.next ?_
    have : Scf.trips k0_t1_loop.lb k0_t1_loop.ub k0_t1_loop.st = 40 := ht
    rw [this] at hf
    exact hf

/-- A loop followed by the rest. -/
theorem seq_wp (𝒱 : Variants) (c : Dev nD) (bd : Option 𝒱.V) (E : Set ℕ) {P R : sProp 𝕄G} {β : Type}
    (p : Prog (TpuEff nD τ sig (Elt F) Λ₀ .tc) PUnit) (q : PUnit → Prog (TpuEff nD τ sig (Elt F) Λ₀ .tc) β) (Q : β → sProp 𝕄G)
    (hp : P ⊢ wp frame (wpE (defs₀ (F := F)) 𝒱 (c : Thread nD τ) bd) E p (fun _ => R))
    (hq : R ⊢ wp frame (wpE (defs₀ (F := F)) 𝒱 (c : Thread nD τ) bd) E (q ⟨⟩) Q) :
    P ⊢ wp frame (wpE (defs₀ (F := F)) 𝒱 (c : Thread nD τ) bd) E (p >>= q) Q := by
  rw [wp_bind]
  iintro H
  iapply (wp_wand_r Idealize.ShloMosaic.frame (wpE (defs₀ (F := F)) 𝒱 (c : Thread nD τ) bd) E)
  isplitl [H]
  · iapply hp; iexact H
  · iintro %_ H
    iapply hq; iexact H

/-- The value of a loop's induction word, and of 128 times it. -/
theorem iv_toNat (k : Fin k0_t1_loop.trips) : (Scalar.indexCast (Scf.iv 0#32 1#32 k) : Index).toNat = k.val ∧
    (Scalar.indexCast (Scalar.muli (Scf.iv 0#32 1#32 k) 128#32) : Index).toNat = 128 * k.val := by
  have ht : k0_t1_loop.trips = 40 := by decide
  have hk : k.val < 40 := ht ▸ k.isLt
  have key : ∀ j : Fin 40, (Scalar.indexCast (Scf.iv 0#32 1#32 j.val) : Index).toNat = j.val ∧
    (Scalar.indexCast (Scalar.muli (Scf.iv 0#32 1#32 j.val) 128#32) : Index).toNat = 128 * j.val := by decide
  exact key ⟨k.val, hk⟩

/-- The offsets of a trip, given the row of blocks. -/
theorem off_eq (r r' : ℕ) (h : r = r') (k : Fin k0_t1_loop.trips) :
    ![r, (Scalar.indexCast (Scf.iv 0#32 1#32 k) : Index).toNat] = ![r', k.val] ∧
    ![r, (Scalar.indexCast (Scalar.muli (Scf.iv 0#32 1#32 k) 128#32) : Index).toNat] = ![r', 128 * k.val] := by
  rw [(iv_toNat k).1, (iv_toNat k).2, h]; exact ⟨rfl, rfl⟩

section Head

variable (i : grid0.Coords)
  (arg1 : Memref sig .tc .smem S17x40 .f32)
  (harg1 : arg1.IsWhole)
  (arg2 : Memref sig .tc .vmem S256x5120 .bf16)
  (harg2 : arg2.IsWhole)
  (arg3 : Memref sig .tc .vmem S2112x5120 .fp8e4m3)
  (harg3 : arg3.IsWhole)
  (arg4 : Memref sig .tc .vmem S1x1536 .bf16)
  (harg4 : arg4.IsWhole)
  (arg5 : Memref sig .tc .vmem S1x512 .bf16)
  (harg5 : arg5.IsWhole)
  (arg6 : Memref sig .tc .vmem S256x1536 .bf16)
  (harg6 : arg6.IsWhole)
  (arg7 : Memref sig .tc .vmem S256x512 .bf16)
  (harg7 : arg7.IsWhole)
  (arg8 : Memref sig .tc .vmem S256x64 .bf16)
  (harg8 : arg8.IsWhole)
  (arg9 : Memref sig .tc .vmem S256x5120 .fp8e4m3)
  (harg9 : arg9.IsWhole)
  (arg10 : Memref sig .tc .vmem S256x40 .f32)
  (harg10 : arg10.IsWhole)
  (arg11 : Memref sig .tc .vmem S2112x5120 .bf16)
  (harg11 : arg11.IsWhole)
  (arg12 : Memref sig .tc .vmem S256x5120 .bf16)
  (harg12 : arg12.IsWhole)
  (arg13 : Memref sig .tc .vmem S256x2048 .f32)
  (harg13 : arg13.IsWhole)

/-- The part of the body under its condition: the weight dequantised into the scratch. -/
def headProg : Prog (TpuEff nD τ sig (Elt F) Λ₀ .tc) PUnit := do
  if k0_h1 : k0_cond1 i = 1#1 then do
    k0_part1 i arg1 harg1 arg2 harg2 arg3 harg3 arg4 harg4 arg5 harg5 arg6 harg6 arg7 harg7 arg8 harg8 arg9 harg9 arg10 harg10 arg11 harg11 arg12 harg12 arg13 harg13 k0_h1
    Scf.Loop.for k0_t11_loop (k0_t11_ok i k0_h1) ⟨⟩ (k0_t11_body i arg1 harg1 arg2 harg2 arg3 harg3 arg4 harg4 arg5 harg5 arg6 harg6 arg7 harg7 arg8 harg8 arg9 harg9 arg10 harg10 arg11 harg11 arg12 harg12 arg13 harg13 k0_h1)
    Scf.Loop.for k0_t12_loop (k0_t12_ok i k0_h1) ⟨⟩ (k0_t12_body i arg1 harg1 arg2 harg2 arg3 harg3 arg4 harg4 arg5 harg5 arg6 harg6 arg7 harg7 arg8 harg8 arg9 harg9 arg10 harg10 arg11 harg11 arg12 harg12 arg13 harg13 k0_h1)
    Scf.Loop.for k0_t13_loop (k0_t13_ok i k0_h1) ⟨⟩ (k0_t13_body i arg1 harg1 arg2 harg2 arg3 harg3 arg4 harg4 arg5 harg5 arg6 harg6 arg7 harg7 arg8 harg8 arg9 harg9 arg10 harg10 arg11 harg11 arg12 harg12 arg13 harg13 k0_h1)
    Scf.Loop.for k0_t14_loop (k0_t14_ok i k0_h1) ⟨⟩ (k0_t14_body i arg1 harg1 arg2 harg2 arg3 harg3 arg4 harg4 arg5 harg5 arg6 harg6 arg7 harg7 arg8 harg8 arg9 harg9 arg10 harg10 arg11 harg11 arg12 harg12 arg13 harg13 k0_h1)
    Scf.Loop.for k0_t15_loop (k0_t15_ok i k0_h1) ⟨⟩ (k0_t15_body i arg1 harg1 arg2 harg2 arg3 harg3 arg4 harg4 arg5 harg5 arg6 harg6 arg7 harg7 arg8 harg8 arg9 harg9 arg10 harg10 arg11 harg11 arg12 harg12 arg13 harg13 k0_h1)
    Scf.Loop.for k0_t16_loop (k0_t16_ok i k0_h1) ⟨⟩ (k0_t16_body i arg1 harg1 arg2 harg2 arg3 harg3 arg4 harg4 arg5 harg5 arg6 harg6 arg7 harg7 arg8 harg8 arg9 harg9 arg10 harg10 arg11 harg11 arg12 harg12 arg13 harg13 k0_h1)
    Scf.Loop.for k0_t17_loop (k0_t17_ok i k0_h1) ⟨⟩ (k0_t17_body i arg1 harg1 arg2 harg2 arg3 harg3 arg4 harg4 arg5 harg5 arg6 harg6 arg7 harg7 arg8 harg8 arg9 harg9 arg10 harg10 arg11 harg11 arg12 harg12 arg13 harg13 k0_h1)
    pure ⟨⟩
  else do
    pure ⟨⟩

/-- What the second part does after the weight. -/
def part2Tail : Prog (TpuEff nD τ sig (Elt F) Λ₀ .tc) (Σ' (v3 : IVec S256x128 32) (v4 : FVec F S256x128 .f32) (v6 : FVec F S256x128 .bf16) (v15 : FVec F S256x128 .bf16) (v38 : FVec F S256x128 .bf16), FVec F S256x128 .bf16) := do
  have v3 : IVec S256x128 32 := iota .tc S256x128 32 [1] iota_S256x128_d1_w32
  let v5 : Vec F S256x128 .bf16 ← Prog.lift (.load arg2 (Rect.unit (s := S256x5120) ![0, 0] S256x128.size inb_S256x5120_S256x128_0_0).toLoadRect (View.loadsAt_vmem h_S256x128))
  pure ⟨v3, k0_pay19 (F := F), k0_pay20 v5, k0_pay21 v5, k0_pay22 v5, k0_pay23 (F := F)⟩

/-- The second part is the weight, then the rest. -/
theorem part2_eq : k0_part2 (F := F) i arg1 harg1 arg2 harg2 arg3 harg3 arg4 harg4 arg5 harg5 arg6 harg6 arg7 harg7 arg8 harg8 arg9 harg9 arg10 harg10 arg11 harg11 arg12 harg12 arg13 harg13
    = headProg (F := F) i arg1 harg1 arg2 harg2 arg3 harg3 arg4 harg4 arg5 harg5 arg6 harg6 arg7 harg7 arg8 harg8 arg9 harg9 arg10 harg10 arg11 harg11 arg12 harg12 arg13 harg13 >>= fun _ => part2Tail (F := F) arg2 := by
  rw [k0_part2_eq_skeleton]
  unfold k0_part2_skel headProg part2Tail
  by_cases h : k0_cond1 i = 1#1
  · simp only [dif_pos h, bind_assoc, pure_bind]
  · simp only [dif_neg h, pure_bind]

set_option maxHeartbeats 8000000 in
/-- After the head the scratch is the dequantised weight, if it was before or the condition holds. -/
theorem headProg_wp (c : Dev nD) (E : Set ℕ) (X1 : BufTy.Contents (Elt F) arg1.view.ty) (X3 : BufTy.Contents (Elt F) arg3.view.ty)
    (f : BufTy.Contents (Elt F) arg11.view.ty)
    (hf : k0_cond1 i = 1#1 ∨ arg11.view.read (Elt F) f = WB (arg1.view.read (Elt F) X1) (arg3.view.read (Elt F) X3)) :
    (iprop((arg1.view.loc (c : Thread nD τ) ↦[arg1.view.set]{fullShare} X1) ∗ (arg3.view.loc (c : Thread nD τ) ↦[arg3.view.set]{fullShare} X3)
      ∗ (arg11.view.loc (c : Thread nD τ) ↦[arg11.view.set]{fullShare} f)) : sProp 𝕄G)
    ⊢ wp frame (wpE (defs₀ (F := F)) Variants.none (c : Thread nD τ) none) E (headProg (F := F) i arg1 harg1 arg2 harg2 arg3 harg3 arg4 harg4 arg5 harg5 arg6 harg6 arg7 harg7 arg8 harg8 arg9 harg9 arg10 harg10 arg11 harg11 arg12 harg12 arg13 harg13)
      (fun _ => iprop((arg1.view.loc (c : Thread nD τ) ↦[arg1.view.set]{fullShare} X1) ∗ (arg3.view.loc (c : Thread nD τ) ↦[arg3.view.set]{fullShare} X3)
        ∗ (∃ f, (arg11.view.loc (c : Thread nD τ) ↦[arg11.view.set]{fullShare} f)
          ∗ ⌜arg11.view.read (Elt F) f = WB (arg1.view.read (Elt F) X1) (arg3.view.read (Elt F) X3)⌝))) := by
  unfold headProg
  by_cases h : k0_cond1 i = 1#1
  · rw [dif_pos h, k0_part1_eq_skeleton]
    unfold k0_part1_skel
    simp only [bind_assoc, pure_bind]
    refine (show _ ⊢ HW (F := F) c arg1 arg3 arg11 X1 X3 0 0 from ?_).trans ?_
    · iintro ⟨H1, H3, H11⟩
      isplitl [H1]; · iexact H1
      isplitl [H3]; · iexact H3
      iexists f; isplitl [H11]; · iexact H11
      ipureintro
      intro y hy
      omega
    refine seq_wp (F := F) Variants.none c none E _ _ _ (loop_wp (F := F) Variants.none c none E 128 h_S128x128 shapeCasts_S128x128_S128x128 arg1 arg3 arg11 harg11 (k0_t1_ok i h)
      k0_off1 k0_off2 (fun k => k0_off1_inb i k h) (fun k => k0_off2_inb i k h) (fun k => k0_off2_packedbf16 i k h) X1 X3 (by decide) 0
      (fun k => (off_eq _ _ rfl k).1) (fun k => (off_eq _ _ rfl k).2) (by intro r h1 h2; omega)) ?_
    refine seq_wp (F := F) Variants.none c none E _ _ _ (loop_wp (F := F) Variants.none c none E 128 h_S128x128 shapeCasts_S128x128_S128x128 arg1 arg3 arg11 harg11 (k0_t1_ok i h)
      k0_off3 k0_off4 (fun k => k0_off3_inb i k h) (fun k => k0_off4_inb i k h) (fun k => k0_off4_packedbf16 i k h) X1 X3 (by decide) 1
      (fun k => (off_eq _ _ rfl k).1) (fun k => (off_eq _ _ rfl k).2) (by intro r h1 h2; omega)) ?_
    refine seq_wp (F := F) Variants.none c none E _ _ _ (loop_wp (F := F) Variants.none c none E 128 h_S128x128 shapeCasts_S128x128_S128x128 arg1 arg3 arg11 harg11 (k0_t1_ok i h)
      k0_off5 k0_off6 (fun k => k0_off5_inb i k h) (fun k => k0_off6_inb i k h) (fun k => k0_off6_packedbf16 i k h) X1 X3 (by decide) 2
      (fun k => (off_eq _ _ rfl k).1) (fun k => (off_eq _ _ rfl k).2) (by intro r h1 h2; omega)) ?_
    refine seq_wp (F := F) Variants.none c none E _ _ _ (loop_wp (F := F) Variants.none c none E 128 h_S128x128 shapeCasts_S128x128_S128x128 arg1 arg3 arg11 harg11 (k0_t1_ok i h)
      k0_off7 k0_off8 (fun k => k0_off7_inb i k h) (fun k => k0_off8_inb i k h) (fun k => k0_off8_packedbf16 i k h) X1 X3 (by decide) 3
      (fun k => (off_eq _ _ rfl k).1) (fun k => (off_eq _ _ rfl k).2) (by intro r h1 h2; omega)) ?_
    refine seq_wp (F := F) Variants.none c none E _ _ _ (loop_wp (F := F) Variants.none c none E 128 h_S128x128 shapeCasts_S128x128_S128x128 arg1 arg3 arg11 harg11 (k0_t1_ok i h)
      k0_off9 k0_off10 (fun k => k0_off9_inb i k h) (fun k => k0_off10_inb i k h) (fun k => k0_off10_packedbf16 i k h) X1 X3 (by decide) 4
      (fun k => (off_eq _ _ rfl k).1) (fun k => (off_eq _ _ rfl k).2) (by intro r h1 h2; omega)) ?_
    refine seq_wp (F := F) Variants.none c none E _ _ _ (loop_wp (F := F) Variants.none c none E 128 h_S128x128 shapeCasts_S128x128_S128x128 arg1 arg3 arg11 harg11 (k0_t1_ok i h)
      k0_off11 k0_off12 (fun k => k0_off11_inb i k h) (fun k => k0_off12_inb i k h) (fun k => k0_off12_packedbf16 i k h) X1 X3 (by decide) 5
      (fun k => (off_eq _ _ rfl k).1) (fun k => (off_eq _ _ rfl k).2) (by intro r h1 h2; omega)) ?_
    refine seq_wp (F := F) Variants.none c none E _ _ _ (loop_wp (F := F) Variants.none c none E 128 h_S128x128 shapeCasts_S128x128_S128x128 arg1 arg3 arg11 harg11 (k0_t1_ok i h)
      k0_off13 k0_off14 (fun k => k0_off13_inb i k h) (fun k => k0_off14_inb i k h) (fun k => k0_off14_packedbf16 i k h) X1 X3 (by decide) 6
      (fun k => (off_eq _ _ rfl k).1) (fun k => (off_eq _ _ rfl k).2) (by intro r h1 h2; omega)) ?_
    refine seq_wp (F := F) Variants.none c none E _ _ _ (loop_wp (F := F) Variants.none c none E 128 h_S128x128 shapeCasts_S128x128_S128x128 arg1 arg3 arg11 harg11 (k0_t1_ok i h)
      k0_off15 k0_off16 (fun k => k0_off15_inb i k h) (fun k => k0_off16_inb i k h) (fun k => k0_off16_packedbf16 i k h) X1 X3 (by decide) 7
      (fun k => (off_eq _ _ rfl k).1) (fun k => (off_eq _ _ rfl k).2) (by intro r h1 h2; omega)) ?_
    refine seq_wp (F := F) Variants.none c none E _ _ _ (loop_wp (F := F) Variants.none c none E 128 h_S128x128 shapeCasts_S128x128_S128x128 arg1 arg3 arg11 harg11 (k0_t1_ok i h)
      k0_off17 k0_off18 (fun k => k0_off17_inb i k h) (fun k => k0_off18_inb i k h) (fun k => k0_off18_packedbf16 i k h) X1 X3 (by decide) 8
      (fun k => (off_eq _ _ rfl k).1) (fun k => (off_eq _ _ rfl k).2) (by intro r h1 h2; omega)) ?_
    refine seq_wp (F := F) Variants.none c none E _ _ _ (loop_wp (F := F) Variants.none c none E 128 h_S128x128 shapeCasts_S128x128_S128x128 arg1 arg3 arg11 harg11 (k0_t1_ok i h)
      k0_off19 k0_off20 (fun k => k0_off19_inb i k h) (fun k => k0_off20_inb i k h) (fun k => k0_off20_packedbf16 i k h) X1 X3 (by decide) 9
      (fun k => (off_eq _ _ rfl k).1) (fun k => (off_eq _ _ rfl k).2) (by intro r h1 h2; omega)) ?_
    refine seq_wp (F := F) Variants.none c none E _ _ _ (loop_wp (F := F) Variants.none c none E 128 h_S128x128 shapeCasts_S128x128_S128x128 arg1 arg3 arg11 harg11 (k0_t1_ok i h)
      k0_off21 k0_off22 (fun k => k0_off21_inb i k h) (fun k => k0_off22_inb i k h) (fun k => k0_off22_packedbf16 i k h) X1 X3 (by decide) 10
      (fun k => (off_eq _ _ rfl k).1) (fun k => (off_eq _ _ rfl k).2) (by intro r h1 h2; omega)) ?_
    refine seq_wp (F := F) Variants.none c none E _ _ _ (loop_wp (F := F) Variants.none c none E 128 h_S128x128 shapeCasts_S128x128_S128x128 arg1 arg3 arg11 harg11 (k0_t1_ok i h)
      k0_off23 k0_off24 (fun k => k0_off23_inb i k h) (fun k => k0_off24_inb i k h) (fun k => k0_off24_packedbf16 i k h) X1 X3 (by decide) 11
      (fun k => (off_eq _ _ rfl k).1) (fun k => (off_eq _ _ rfl k).2) (by intro r h1 h2; omega)) ?_
    refine seq_wp (F := F) Variants.none c none E _ _ _ (loop_wp (F := F) Variants.none c none E 128 h_S128x128 shapeCasts_S128x128_S128x128 arg1 arg3 arg11 harg11 (k0_t1_ok i h)
      k0_off25 k0_off26 (fun k => k0_off25_inb i k h) (fun k => k0_off26_inb i k h) (fun k => k0_off26_packedbf16 i k h) X1 X3 (by decide) 12
      (fun k => (off_eq _ _ rfl k).1) (fun k => (off_eq _ _ rfl k).2) (by intro r h1 h2; omega)) ?_
    refine seq_wp (F := F) Variants.none c none E _ _ _ (loop_wp (F := F) Variants.none c none E 128 h_S128x128 shapeCasts_S128x128_S128x128 arg1 arg3 arg11 harg11 (k0_t1_ok i h)
      k0_off27 k0_off28 (fun k => k0_off27_inb i k h) (fun k => k0_off28_inb i k h) (fun k => k0_off28_packedbf16 i k h) X1 X3 (by decide) 13
      (fun k => (off_eq _ _ rfl k).1) (fun k => (off_eq _ _ rfl k).2) (by intro r h1 h2; omega)) ?_
    refine seq_wp (F := F) Variants.none c none E _ _ _ (loop_wp (F := F) Variants.none c none E 128 h_S128x128 shapeCasts_S128x128_S128x128 arg1 arg3 arg11 harg11 (k0_t1_ok i h)
      k0_off29 k0_off30 (fun k => k0_off29_inb i k h) (fun k => k0_off30_inb i k h) (fun k => k0_off30_packedbf16 i k h) X1 X3 (by decide) 14
      (fun k => (off_eq _ _ rfl k).1) (fun k => (off_eq _ _ rfl k).2) (by intro r h1 h2; omega)) ?_
    refine seq_wp (F := F) Variants.none c none E _ _ _ (loop_wp (F := F) Variants.none c none E 128 h_S128x128 shapeCasts_S128x128_S128x128 arg1 arg3 arg11 harg11 (k0_t1_ok i h)
      k0_off31 k0_off32 (fun k => k0_off31_inb i k h) (fun k => k0_off32_inb i k h) (fun k => k0_off32_packedbf16 i k h) X1 X3 (by decide) 15
      (fun k => (off_eq _ _ rfl k).1) (fun k => (off_eq _ _ rfl k).2) (by intro r h1 h2; omega)) ?_
    refine seq_wp (F := F) Variants.none c none E _ _ _ (loop_wp (F := F) Variants.none c none E 64 h_S64x128 shapeCasts_S64x128_S64x128 arg1 arg3 arg11 harg11 (k0_t1_ok i h)
      k0_off33 k0_off34 (fun k => k0_off33_inb i k h) (fun k => k0_off34_inb i k h) (fun k => k0_off34_packedbf16 i k h) X1 X3 (by decide) 16
      (fun k => (off_eq _ _ rfl k).1) (fun k => (off_eq _ _ rfl k).2) (by intro r h1 h2; omega)) ?_
    iintro ⟨H1, H3, ⟨%f', H11, %hf'⟩⟩
    sl_step
    isplitl [H1]; · iexact H1
    isplitl [H3]; · iexact H3
    iexists f'; isplitl [H11]; · iexact H11
    ipureintro
    funext y
    have hy : (y 0).val < 2112 := (y 0).isLt
    exact hf' y (by omega)
  · rw [dif_neg h]
    iintro ⟨H1, H3, H11⟩
    sl_step
    isplitl [H1]; · iexact H1
    isplitl [H3]; · iexact H3
    iexists f; isplitl [H11]; · iexact H11
    ipureintro
    exact hf.resolve_left h

end Head

end Cert.Kernel.Hand
-- ==== Proof.KernelRun.lean ====
/- The lemmas of Proof/Run.lean for the kernel as printed, before idealization: the same text over the other program's
   names, from which its frame follows. -/
module

public import proofs.«01_k».proof.Proof.KernelDequant
public import proofs.«01_k».proof.Proof.Gen.Kernel.Frame

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Gen

variable {F : FTy → Type} [FloatOps F]

local notation "𝕄G" => MT nD τ sig Unit (Elt F) ℕ (UR sig nD τ) ℕ

set_option maxHeartbeats 4000000 in
/-- What the body's stores leave in the five outputs, as pieces (last first), with the proof that the body, its
    inputs held at their contents and the weight scratch at anything where the body fills it, at the dequantised
    weight where it does not, runs to the continuation holding the inputs as they were, each output with its
    pieces written and the weight scratch at the dequantised weight. -/
def kernelRun (c : Dev nD) (i : grid0.Coords) (arg1 : Memref sig .tc .smem S17x40 .f32) (harg1 : arg1.IsWhole) (arg2 : Memref sig .tc .vmem S256x5120 .bf16) (harg2 : arg2.IsWhole) (arg3 : Memref sig .tc .vmem S2112x5120 .fp8e4m3) (harg3 : arg3.IsWhole) (arg4 : Memref sig .tc .vmem S1x1536 .bf16) (harg4 : arg4.IsWhole) (arg5 : Memref sig .tc .vmem S1x512 .bf16) (harg5 : arg5.IsWhole) (arg6 : Memref sig .tc .vmem S256x1536 .bf16) (harg6 : arg6.IsWhole) (arg7 : Memref sig .tc .vmem S256x512 .bf16) (harg7 : arg7.IsWhole) (arg8 : Memref sig .tc .vmem S256x64 .bf16) (harg8 : arg8.IsWhole) (arg9 : Memref sig .tc .vmem S256x5120 .fp8e4m3) (harg9 : arg9.IsWhole) (arg10 : Memref sig .tc .vmem S256x40 .f32) (harg10 : arg10.IsWhole) (arg11 : Memref sig .tc .vmem S2112x5120 .bf16) (harg11 : arg11.IsWhole) (arg12 : Memref sig .tc .vmem S256x5120 .bf16) (harg12 : arg12.IsWhole) (arg13 : Memref sig .tc .vmem S256x2048 .f32) (harg13 : arg13.IsWhole)
    (x0 : Vec F S17x40 .f32) (x1 : Vec F S256x5120 .bf16) (x2 : Vec F S2112x5120 .fp8e4m3) (x3 : Vec F S1x1536 .bf16) (x4 : Vec F S1x512 .bf16) :
    { L : List (View.Piece (Elt F) S256x1536 .bf16) × List (View.Piece (Elt F) S256x512 .bf16) × List (View.Piece (Elt F) S256x64 .bf16)
        × List (View.Piece (Elt F) S256x5120 .fp8e4m3) × List (View.Piece (Elt F) S256x40 .f32) //
      ∀ (xs : Vec F S2112x5120 .bf16) (hxs : k0_cond1 i = 1#1 ∨ xs = WB x0 x2) (E : Set ℕ) (K : PUnit → sProp 𝕄G),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xs ∗ (∃ d, owns (c : Thread nD τ) arg12 fullShare d) ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L.1) ∗ (∃ f, arg7.view.loc (c : Thread nD τ) ↦[arg7.view.set]{fullShare} arg7.view.writes (Elt F) f L.2.1) ∗ (∃ f, arg8.view.loc (c : Thread nD τ) ↦[arg8.view.set]{fullShare} arg8.view.writes (Elt F) f L.2.2.1) ∗ (∃ f, arg9.view.loc (c : Thread nD τ) ↦[arg9.view.set]{fullShare} arg9.view.writes (Elt F) f L.2.2.2.1) ∗ (∃ f, arg10.view.loc (c : Thread nD τ) ↦[arg10.view.set]{fullShare} arg10.view.writes (Elt F) f L.2.2.2.2) ∗ owns (c : Thread nD τ) arg11 fullShare (WB x0 x2) ∗ (∃ d, owns (c : Thread nD τ) arg12 fullShare d) ∗ (∃ d, owns (c : Thread nD τ) arg13 fullShare d)) -∗ K ⟨⟩))
          ⊢ wp frame (wpE (defs₀ (F := F)) Variants.none c none) E (cc0_mla_down i arg1 harg1 arg2 harg2 arg3 harg3 arg4 harg4 arg5 harg5 arg6 harg6 arg7 harg7 arg8 harg8 arg9 harg9 arg10 harg10 arg11 harg11 arg12 harg12 arg13 harg13) K } := by
  refine ⟨⟨?_, ?_, ?_, ?_, ?_⟩, fun xs hxs E K => ?run⟩
  case run =>
    simp only [cc0_mla_down_eq_skeleton]; unfold cc0_mla_down_skel
    simp only [k0_part82_eq_skeleton]; unfold k0_part82_skel
    simp only [part2_eq, bind_assoc]
    simp only [k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%fs0, %hfs0, HS0⟩, ⟨%ds1, %fs1, -, HS1⟩, ⟨%ds2, %fs2, -, HS2⟩, Hk⟩
    rw [wp_bind]
    iapply (wp_wand_r Idealize.ShloMosaic.frame (wpE (defs₀ (F := F)) Variants.none (c : Thread nD τ) none) E)
    isplitl [H0 H2 HS0]
    · iapply (headProg_wp (F := F) i arg1 harg1 arg2 harg2 arg3 harg3 arg4 harg4 arg5 harg5 arg6 harg6 arg7 harg7 arg8 harg8 arg9 harg9 arg10 harg10 arg11 harg11 arg12 harg12 arg13 harg13 c E f0 f2 fs0 (by rw [hfs0, hf0, hf2]; exact hxs))
      isplitl [H0]; · iexact H0
      isplitl [H2]; · iexact H2
      iexact HS0
    iintro %_ ⟨H0, H2, ⟨%g, HS0, %hg⟩⟩
    rw [hf0, hf2] at hg
    obtain rfl := harg1.eq_unread hf0; obtain rfl := harg2.eq_unread hf1; obtain rfl := harg3.eq_unread hf2; obtain rfl := harg4.eq_unread hf3; obtain rfl := harg5.eq_unread hf4; obtain rfl := harg11.eq_unread hg
    unfold part2Tail
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; iexact H5
    isplitl [H6]
    · iexists _; iexact H6
    isplitl [H7]
    · iexists _; iexact H7
    isplitl [H8]
    · iexists _; iexact H8
    isplitl [H9]
    · iexists _; iexact H9
    isplitl [HS0]
    · iexists _; isplitr; · ipureintro; exact harg11.read_unread _
      iexact HS0
    isplitl [HS1]
    · iexists _, _; isplitr; swap; · iexact HS1
      ipureintro; rfl
    iexists _, _; isplitr; swap; · iexact HS2
    ipureintro; rfl

end Cert.Kernel.Hand
-- ==== Proof.KernelData.lean ====
/- The lemmas of Proof/Data.lean for the kernel as printed, before idealization: the same text over the other program's
   names, from which its frame follows. -/
module

public import proofs.«01_k».proof.Proof.KernelRun
public import Idealize.ShloMosaic.Lib.Claim

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel Cert.Kernel.Gen

variable {F : FTy → Type} [FloatOps F]

local notation "𝕄G" => MT nD τ sig Unit (Elt F) ℕ (UR sig nD τ) ℕ

variable (m : (ℓ : Loc nD τ sig) → Buf (Elt F) ℓ) (ρ : Dev nD → PrngReg)

/-! ## What the stores of the body cover -/

/-- The pieces the body stores into output window 5 tile it. -/
theorem cover_5 (c : Dev nD) (i : grid0.Coords) (arg1 : Memref sig .tc .smem S17x40 .f32) (harg1 : arg1.IsWhole) (arg2 : Memref sig .tc .vmem S256x5120 .bf16) (harg2 : arg2.IsWhole) (arg3 : Memref sig .tc .vmem S2112x5120 .fp8e4m3) (harg3 : arg3.IsWhole) (arg4 : Memref sig .tc .vmem S1x1536 .bf16) (harg4 : arg4.IsWhole) (arg5 : Memref sig .tc .vmem S1x512 .bf16) (harg5 : arg5.IsWhole) (arg6 : Memref sig .tc .vmem S256x1536 .bf16) (harg6 : arg6.IsWhole) (arg7 : Memref sig .tc .vmem S256x512 .bf16) (harg7 : arg7.IsWhole) (arg8 : Memref sig .tc .vmem S256x64 .bf16) (harg8 : arg8.IsWhole) (arg9 : Memref sig .tc .vmem S256x5120 .fp8e4m3) (harg9 : arg9.IsWhole) (arg10 : Memref sig .tc .vmem S256x40 .f32) (harg10 : arg10.IsWhole) (arg11 : Memref sig .tc .vmem S2112x5120 .bf16) (harg11 : arg11.IsWhole) (arg12 : Memref sig .tc .vmem S256x5120 .bf16) (harg12 : arg12.IsWhole) (arg13 : Memref sig .tc .vmem S256x2048 .f32) (harg13 : arg13.IsWhole) (x0 : Vec F S17x40 .f32) (x1 : Vec F S256x5120 .bf16) (x2 : Vec F S2112x5120 .fp8e4m3) (x3 : Vec F S1x1536 .bf16) (x4 : Vec F S1x512 .bf16) (y : S256x1536.Idx) :
    ∃ pc ∈ (kernelRun c i arg1 harg1 arg2 harg2 arg3 harg3 arg4 harg4 arg5 harg5 arg6 harg6 arg7 harg7 arg8 harg8 arg9 harg9 arg10 harg10 arg11 harg11 arg12 harg12 arg13 harg13 x0 x1 x2 x3 x4).1.1, y ∈ pc.1.set :=
  View.cover_of_tiledBy (kernelRun c i arg1 harg1 arg2 harg2 arg3 harg3 arg4 harg4 arg5 harg5 arg6 harg6 arg7 harg7 arg8 harg8 arg9 harg9 arg10 harg10 arg11 harg11 arg12 harg12 arg13 harg13 x0 x1 x2 x3 x4).1.1 ![256, 1536] (by sl_kernel_rfl) y

/-- The pieces the body stores into output window 6 tile it. -/
theorem cover_6 (c : Dev nD) (i : grid0.Coords) (arg1 : Memref sig .tc .smem S17x40 .f32) (harg1 : arg1.IsWhole) (arg2 : Memref sig .tc .vmem S256x5120 .bf16) (harg2 : arg2.IsWhole) (arg3 : Memref sig .tc .vmem S2112x5120 .fp8e4m3) (harg3 : arg3.IsWhole) (arg4 : Memref sig .tc .vmem S1x1536 .bf16) (harg4 : arg4.IsWhole) (arg5 : Memref sig .tc .vmem S1x512 .bf16) (harg5 : arg5.IsWhole) (arg6 : Memref sig .tc .vmem S256x1536 .bf16) (harg6 : arg6.IsWhole) (arg7 : Memref sig .tc .vmem S256x512 .bf16) (harg7 : arg7.IsWhole) (arg8 : Memref sig .tc .vmem S256x64 .bf16) (harg8 : arg8.IsWhole) (arg9 : Memref sig .tc .vmem S256x5120 .fp8e4m3) (harg9 : arg9.IsWhole) (arg10 : Memref sig .tc .vmem S256x40 .f32) (harg10 : arg10.IsWhole) (arg11 : Memref sig .tc .vmem S2112x5120 .bf16) (harg11 : arg11.IsWhole) (arg12 : Memref sig .tc .vmem S256x5120 .bf16) (harg12 : arg12.IsWhole) (arg13 : Memref sig .tc .vmem S256x2048 .f32) (harg13 : arg13.IsWhole) (x0 : Vec F S17x40 .f32) (x1 : Vec F S256x5120 .bf16) (x2 : Vec F S2112x5120 .fp8e4m3) (x3 : Vec F S1x1536 .bf16) (x4 : Vec F S1x512 .bf16) (y : S256x512.Idx) :
    ∃ pc ∈ (kernelRun c i arg1 harg1 arg2 harg2 arg3 harg3 arg4 harg4 arg5 harg5 arg6 harg6 arg7 harg7 arg8 harg8 arg9 harg9 arg10 harg10 arg11 harg11 arg12 harg12 arg13 harg13 x0 x1 x2 x3 x4).1.2.1, y ∈ pc.1.set :=
  View.cover_of_tiledBy (kernelRun c i arg1 harg1 arg2 harg2 arg3 harg3 arg4 harg4 arg5 harg5 arg6 harg6 arg7 harg7 arg8 harg8 arg9 harg9 arg10 harg10 arg11 harg11 arg12 harg12 arg13 harg13 x0 x1 x2 x3 x4).1.2.1 ![256, 512] (by sl_kernel_rfl) y

/-- The pieces the body stores into output window 7 tile it. -/
theorem cover_7 (c : Dev nD) (i : grid0.Coords) (arg1 : Memref sig .tc .smem S17x40 .f32) (harg1 : arg1.IsWhole) (arg2 : Memref sig .tc .vmem S256x5120 .bf16) (harg2 : arg2.IsWhole) (arg3 : Memref sig .tc .vmem S2112x5120 .fp8e4m3) (harg3 : arg3.IsWhole) (arg4 : Memref sig .tc .vmem S1x1536 .bf16) (harg4 : arg4.IsWhole) (arg5 : Memref sig .tc .vmem S1x512 .bf16) (harg5 : arg5.IsWhole) (arg6 : Memref sig .tc .vmem S256x1536 .bf16) (harg6 : arg6.IsWhole) (arg7 : Memref sig .tc .vmem S256x512 .bf16) (harg7 : arg7.IsWhole) (arg8 : Memref sig .tc .vmem S256x64 .bf16) (harg8 : arg8.IsWhole) (arg9 : Memref sig .tc .vmem S256x5120 .fp8e4m3) (harg9 : arg9.IsWhole) (arg10 : Memref sig .tc .vmem S256x40 .f32) (harg10 : arg10.IsWhole) (arg11 : Memref sig .tc .vmem S2112x5120 .bf16) (harg11 : arg11.IsWhole) (arg12 : Memref sig .tc .vmem S256x5120 .bf16) (harg12 : arg12.IsWhole) (arg13 : Memref sig .tc .vmem S256x2048 .f32) (harg13 : arg13.IsWhole) (x0 : Vec F S17x40 .f32) (x1 : Vec F S256x5120 .bf16) (x2 : Vec F S2112x5120 .fp8e4m3) (x3 : Vec F S1x1536 .bf16) (x4 : Vec F S1x512 .bf16) (y : S256x64.Idx) :
    ∃ pc ∈ (kernelRun c i arg1 harg1 arg2 harg2 arg3 harg3 arg4 harg4 arg5 harg5 arg6 harg6 arg7 harg7 arg8 harg8 arg9 harg9 arg10 harg10 arg11 harg11 arg12 harg12 arg13 harg13 x0 x1 x2 x3 x4).1.2.2.1, y ∈ pc.1.set :=
  View.cover_of_tiledBy (kernelRun c i arg1 harg1 arg2 harg2 arg3 harg3 arg4 harg4 arg5 harg5 arg6 harg6 arg7 harg7 arg8 harg8 arg9 harg9 arg10 harg10 arg11 harg11 arg12 harg12 arg13 harg13 x0 x1 x2 x3 x4).1.2.2.1 ![256, 64] (by sl_kernel_rfl) y

/-- The pieces the body stores into output window 8 tile it. -/
theorem cover_8 (c : Dev nD) (i : grid0.Coords) (arg1 : Memref sig .tc .smem S17x40 .f32) (harg1 : arg1.IsWhole) (arg2 : Memref sig .tc .vmem S256x5120 .bf16) (harg2 : arg2.IsWhole) (arg3 : Memref sig .tc .vmem S2112x5120 .fp8e4m3) (harg3 : arg3.IsWhole) (arg4 : Memref sig .tc .vmem S1x1536 .bf16) (harg4 : arg4.IsWhole) (arg5 : Memref sig .tc .vmem S1x512 .bf16) (harg5 : arg5.IsWhole) (arg6 : Memref sig .tc .vmem S256x1536 .bf16) (harg6 : arg6.IsWhole) (arg7 : Memref sig .tc .vmem S256x512 .bf16) (harg7 : arg7.IsWhole) (arg8 : Memref sig .tc .vmem S256x64 .bf16) (harg8 : arg8.IsWhole) (arg9 : Memref sig .tc .vmem S256x5120 .fp8e4m3) (harg9 : arg9.IsWhole) (arg10 : Memref sig .tc .vmem S256x40 .f32) (harg10 : arg10.IsWhole) (arg11 : Memref sig .tc .vmem S2112x5120 .bf16) (harg11 : arg11.IsWhole) (arg12 : Memref sig .tc .vmem S256x5120 .bf16) (harg12 : arg12.IsWhole) (arg13 : Memref sig .tc .vmem S256x2048 .f32) (harg13 : arg13.IsWhole) (x0 : Vec F S17x40 .f32) (x1 : Vec F S256x5120 .bf16) (x2 : Vec F S2112x5120 .fp8e4m3) (x3 : Vec F S1x1536 .bf16) (x4 : Vec F S1x512 .bf16) (y : S256x5120.Idx) :
    ∃ pc ∈ (kernelRun c i arg1 harg1 arg2 harg2 arg3 harg3 arg4 harg4 arg5 harg5 arg6 harg6 arg7 harg7 arg8 harg8 arg9 harg9 arg10 harg10 arg11 harg11 arg12 harg12 arg13 harg13 x0 x1 x2 x3 x4).1.2.2.2.1, y ∈ pc.1.set :=
  View.cover_of_tiledBy (kernelRun c i arg1 harg1 arg2 harg2 arg3 harg3 arg4 harg4 arg5 harg5 arg6 harg6 arg7 harg7 arg8 harg8 arg9 harg9 arg10 harg10 arg11 harg11 arg12 harg12 arg13 harg13 x0 x1 x2 x3 x4).1.2.2.2.1 ![256, 128] (by sl_kernel_rfl) y

/-- The pieces the body stores into output window 9 tile it. -/
theorem cover_9 (c : Dev nD) (i : grid0.Coords) (arg1 : Memref sig .tc .smem S17x40 .f32) (harg1 : arg1.IsWhole) (arg2 : Memref sig .tc .vmem S256x5120 .bf16) (harg2 : arg2.IsWhole) (arg3 : Memref sig .tc .vmem S2112x5120 .fp8e4m3) (harg3 : arg3.IsWhole) (arg4 : Memref sig .tc .vmem S1x1536 .bf16) (harg4 : arg4.IsWhole) (arg5 : Memref sig .tc .vmem S1x512 .bf16) (harg5 : arg5.IsWhole) (arg6 : Memref sig .tc .vmem S256x1536 .bf16) (harg6 : arg6.IsWhole) (arg7 : Memref sig .tc .vmem S256x512 .bf16) (harg7 : arg7.IsWhole) (arg8 : Memref sig .tc .vmem S256x64 .bf16) (harg8 : arg8.IsWhole) (arg9 : Memref sig .tc .vmem S256x5120 .fp8e4m3) (harg9 : arg9.IsWhole) (arg10 : Memref sig .tc .vmem S256x40 .f32) (harg10 : arg10.IsWhole) (arg11 : Memref sig .tc .vmem S2112x5120 .bf16) (harg11 : arg11.IsWhole) (arg12 : Memref sig .tc .vmem S256x5120 .bf16) (harg12 : arg12.IsWhole) (arg13 : Memref sig .tc .vmem S256x2048 .f32) (harg13 : arg13.IsWhole) (x0 : Vec F S17x40 .f32) (x1 : Vec F S256x5120 .bf16) (x2 : Vec F S2112x5120 .fp8e4m3) (x3 : Vec F S1x1536 .bf16) (x4 : Vec F S1x512 .bf16) (y : S256x40.Idx) :
    ∃ pc ∈ (kernelRun c i arg1 harg1 arg2 harg2 arg3 harg3 arg4 harg4 arg5 harg5 arg6 harg6 arg7 harg7 arg8 harg8 arg9 harg9 arg10 harg10 arg11 harg11 arg12 harg12 arg13 harg13 x0 x1 x2 x3 x4).1.2.2.2.2, y ∈ pc.1.set :=
  View.cover_of_tiledBy (kernelRun c i arg1 harg1 arg2 harg2 arg3 harg3 arg4 harg4 arg5 harg5 arg6 harg6 arg7 harg7 arg8 harg8 arg9 harg9 arg10 harg10 arg11 harg11 arg12 harg12 arg13 harg13 x0 x1 x2 x3 x4).1.2.2.2.2 ![256, 40] (by sl_kernel_rfl) y

/-- What the body leaves in output window 5's buffer, from the blocks of its inputs. -/
def out_5 (c : Dev nD) (i : grid0.Coords) (arg1 : Memref sig .tc .smem S17x40 .f32) (harg1 : arg1.IsWhole) (arg2 : Memref sig .tc .vmem S256x5120 .bf16) (harg2 : arg2.IsWhole) (arg3 : Memref sig .tc .vmem S2112x5120 .fp8e4m3) (harg3 : arg3.IsWhole) (arg4 : Memref sig .tc .vmem S1x1536 .bf16) (harg4 : arg4.IsWhole) (arg5 : Memref sig .tc .vmem S1x512 .bf16) (harg5 : arg5.IsWhole) (arg6 : Memref sig .tc .vmem S256x1536 .bf16) (harg6 : arg6.IsWhole) (arg7 : Memref sig .tc .vmem S256x512 .bf16) (harg7 : arg7.IsWhole) (arg8 : Memref sig .tc .vmem S256x64 .bf16) (harg8 : arg8.IsWhole) (arg9 : Memref sig .tc .vmem S256x5120 .fp8e4m3) (harg9 : arg9.IsWhole) (arg10 : Memref sig .tc .vmem S256x40 .f32) (harg10 : arg10.IsWhole) (arg11 : Memref sig .tc .vmem S2112x5120 .bf16) (harg11 : arg11.IsWhole) (arg12 : Memref sig .tc .vmem S256x5120 .bf16) (harg12 : arg12.IsWhole) (arg13 : Memref sig .tc .vmem S256x2048 .f32) (harg13 : arg13.IsWhole) (x0 : Vec F S17x40 .f32) (x1 : Vec F S256x5120 .bf16) (x2 : Vec F S2112x5120 .fp8e4m3) (x3 : Vec F S1x1536 .bf16) (x4 : Vec F S1x512 .bf16) : Vec F S256x1536 .bf16 :=
  View.canon (kernelRun c i arg1 harg1 arg2 harg2 arg3 harg3 arg4 harg4 arg5 harg5 arg6 harg6 arg7 harg7 arg8 harg8 arg9 harg9 arg10 harg10 arg11 harg11 arg12 harg12 arg13 harg13 x0 x1 x2 x3 x4).1.1

/-- What the body leaves in output window 6's buffer, from the blocks of its inputs. -/
def out_6 (c : Dev nD) (i : grid0.Coords) (arg1 : Memref sig .tc .smem S17x40 .f32) (harg1 : arg1.IsWhole) (arg2 : Memref sig .tc .vmem S256x5120 .bf16) (harg2 : arg2.IsWhole) (arg3 : Memref sig .tc .vmem S2112x5120 .fp8e4m3) (harg3 : arg3.IsWhole) (arg4 : Memref sig .tc .vmem S1x1536 .bf16) (harg4 : arg4.IsWhole) (arg5 : Memref sig .tc .vmem S1x512 .bf16) (harg5 : arg5.IsWhole) (arg6 : Memref sig .tc .vmem S256x1536 .bf16) (harg6 : arg6.IsWhole) (arg7 : Memref sig .tc .vmem S256x512 .bf16) (harg7 : arg7.IsWhole) (arg8 : Memref sig .tc .vmem S256x64 .bf16) (harg8 : arg8.IsWhole) (arg9 : Memref sig .tc .vmem S256x5120 .fp8e4m3) (harg9 : arg9.IsWhole) (arg10 : Memref sig .tc .vmem S256x40 .f32) (harg10 : arg10.IsWhole) (arg11 : Memref sig .tc .vmem S2112x5120 .bf16) (harg11 : arg11.IsWhole) (arg12 : Memref sig .tc .vmem S256x5120 .bf16) (harg12 : arg12.IsWhole) (arg13 : Memref sig .tc .vmem S256x2048 .f32) (harg13 : arg13.IsWhole) (x0 : Vec F S17x40 .f32) (x1 : Vec F S256x5120 .bf16) (x2 : Vec F S2112x5120 .fp8e4m3) (x3 : Vec F S1x1536 .bf16) (x4 : Vec F S1x512 .bf16) : Vec F S256x512 .bf16 :=
  View.canon (kernelRun c i arg1 harg1 arg2 harg2 arg3 harg3 arg4 harg4 arg5 harg5 arg6 harg6 arg7 harg7 arg8 harg8 arg9 harg9 arg10 harg10 arg11 harg11 arg12 harg12 arg13 harg13 x0 x1 x2 x3 x4).1.2.1

/-- What the body leaves in output window 7's buffer, from the blocks of its inputs. -/
def out_7 (c : Dev nD) (i : grid0.Coords) (arg1 : Memref sig .tc .smem S17x40 .f32) (harg1 : arg1.IsWhole) (arg2 : Memref sig .tc .vmem S256x5120 .bf16) (harg2 : arg2.IsWhole) (arg3 : Memref sig .tc .vmem S2112x5120 .fp8e4m3) (harg3 : arg3.IsWhole) (arg4 : Memref sig .tc .vmem S1x1536 .bf16) (harg4 : arg4.IsWhole) (arg5 : Memref sig .tc .vmem S1x512 .bf16) (harg5 : arg5.IsWhole) (arg6 : Memref sig .tc .vmem S256x1536 .bf16) (harg6 : arg6.IsWhole) (arg7 : Memref sig .tc .vmem S256x512 .bf16) (harg7 : arg7.IsWhole) (arg8 : Memref sig .tc .vmem S256x64 .bf16) (harg8 : arg8.IsWhole) (arg9 : Memref sig .tc .vmem S256x5120 .fp8e4m3) (harg9 : arg9.IsWhole) (arg10 : Memref sig .tc .vmem S256x40 .f32) (harg10 : arg10.IsWhole) (arg11 : Memref sig .tc .vmem S2112x5120 .bf16) (harg11 : arg11.IsWhole) (arg12 : Memref sig .tc .vmem S256x5120 .bf16) (harg12 : arg12.IsWhole) (arg13 : Memref sig .tc .vmem S256x2048 .f32) (harg13 : arg13.IsWhole) (x0 : Vec F S17x40 .f32) (x1 : Vec F S256x5120 .bf16) (x2 : Vec F S2112x5120 .fp8e4m3) (x3 : Vec F S1x1536 .bf16) (x4 : Vec F S1x512 .bf16) : Vec F S256x64 .bf16 :=
  View.canon (kernelRun c i arg1 harg1 arg2 harg2 arg3 harg3 arg4 harg4 arg5 harg5 arg6 harg6 arg7 harg7 arg8 harg8 arg9 harg9 arg10 harg10 arg11 harg11 arg12 harg12 arg13 harg13 x0 x1 x2 x3 x4).1.2.2.1

/-- What the body leaves in output window 8's buffer, from the blocks of its inputs. -/
def out_8 (c : Dev nD) (i : grid0.Coords) (arg1 : Memref sig .tc .smem S17x40 .f32) (harg1 : arg1.IsWhole) (arg2 : Memref sig .tc .vmem S256x5120 .bf16) (harg2 : arg2.IsWhole) (arg3 : Memref sig .tc .vmem S2112x5120 .fp8e4m3) (harg3 : arg3.IsWhole) (arg4 : Memref sig .tc .vmem S1x1536 .bf16) (harg4 : arg4.IsWhole) (arg5 : Memref sig .tc .vmem S1x512 .bf16) (harg5 : arg5.IsWhole) (arg6 : Memref sig .tc .vmem S256x1536 .bf16) (harg6 : arg6.IsWhole) (arg7 : Memref sig .tc .vmem S256x512 .bf16) (harg7 : arg7.IsWhole) (arg8 : Memref sig .tc .vmem S256x64 .bf16) (harg8 : arg8.IsWhole) (arg9 : Memref sig .tc .vmem S256x5120 .fp8e4m3) (harg9 : arg9.IsWhole) (arg10 : Memref sig .tc .vmem S256x40 .f32) (harg10 : arg10.IsWhole) (arg11 : Memref sig .tc .vmem S2112x5120 .bf16) (harg11 : arg11.IsWhole) (arg12 : Memref sig .tc .vmem S256x5120 .bf16) (harg12 : arg12.IsWhole) (arg13 : Memref sig .tc .vmem S256x2048 .f32) (harg13 : arg13.IsWhole) (x0 : Vec F S17x40 .f32) (x1 : Vec F S256x5120 .bf16) (x2 : Vec F S2112x5120 .fp8e4m3) (x3 : Vec F S1x1536 .bf16) (x4 : Vec F S1x512 .bf16) : Vec F S256x5120 .fp8e4m3 :=
  View.canon (kernelRun c i arg1 harg1 arg2 harg2 arg3 harg3 arg4 harg4 arg5 harg5 arg6 harg6 arg7 harg7 arg8 harg8 arg9 harg9 arg10 harg10 arg11 harg11 arg12 harg12 arg13 harg13 x0 x1 x2 x3 x4).1.2.2.2.1

/-- What the body leaves in output window 9's buffer, from the blocks of its inputs. -/
def out_9 (c : Dev nD) (i : grid0.Coords) (arg1 : Memref sig .tc .smem S17x40 .f32) (harg1 : arg1.IsWhole) (arg2 : Memref sig .tc .vmem S256x5120 .bf16) (harg2 : arg2.IsWhole) (arg3 : Memref sig .tc .vmem S2112x5120 .fp8e4m3) (harg3 : arg3.IsWhole) (arg4 : Memref sig .tc .vmem S1x1536 .bf16) (harg4 : arg4.IsWhole) (arg5 : Memref sig .tc .vmem S1x512 .bf16) (harg5 : arg5.IsWhole) (arg6 : Memref sig .tc .vmem S256x1536 .bf16) (harg6 : arg6.IsWhole) (arg7 : Memref sig .tc .vmem S256x512 .bf16) (harg7 : arg7.IsWhole) (arg8 : Memref sig .tc .vmem S256x64 .bf16) (harg8 : arg8.IsWhole) (arg9 : Memref sig .tc .vmem S256x5120 .fp8e4m3) (harg9 : arg9.IsWhole) (arg10 : Memref sig .tc .vmem S256x40 .f32) (harg10 : arg10.IsWhole) (arg11 : Memref sig .tc .vmem S2112x5120 .bf16) (harg11 : arg11.IsWhole) (arg12 : Memref sig .tc .vmem S256x5120 .bf16) (harg12 : arg12.IsWhole) (arg13 : Memref sig .tc .vmem S256x2048 .f32) (harg13 : arg13.IsWhole) (x0 : Vec F S17x40 .f32) (x1 : Vec F S256x5120 .bf16) (x2 : Vec F S2112x5120 .fp8e4m3) (x3 : Vec F S1x1536 .bf16) (x4 : Vec F S1x512 .bf16) : Vec F S256x40 .f32 :=
  View.canon (kernelRun c i arg1 harg1 arg2 harg2 arg3 harg3 arg4 harg4 arg5 harg5 arg6 harg6 arg7 harg7 arg8 harg8 arg9 harg9 arg10 harg10 arg11 harg11 arg12 harg12 arg13 harg13 x0 x1 x2 x3 x4).1.2.2.2.2

/-! ## The memrefs the pipeline passes -/

/-- Each window's current staging memref at point `t`, spelled as the pipeline passes it (`bodyAt0`), and its wholeness. -/
abbrev ms_0 (t : Fin cfg0.N) : Memref sig .tc .smem S17x40 .f32 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S256x5120 .bf16 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S2112x5120 .fp8e4m3 := win0_2.stage (cfg0.slots t 2)
abbrev hs_2 (t : Fin cfg0.N) : (ms_2 t).IsWhole := hstage0_2 ((cfg0.slots t 2).cast nbuf0_2)
abbrev ms_3 (t : Fin cfg0.N) : Memref sig .tc .vmem S1x1536 .bf16 := win0_3.stage (cfg0.slots t 3)
abbrev hs_3 (t : Fin cfg0.N) : (ms_3 t).IsWhole := hstage0_3 ((cfg0.slots t 3).cast nbuf0_3)
abbrev ms_4 (t : Fin cfg0.N) : Memref sig .tc .vmem S1x512 .bf16 := win0_4.stage (cfg0.slots t 4)
abbrev hs_4 (t : Fin cfg0.N) : (ms_4 t).IsWhole := hstage0_4 ((cfg0.slots t 4).cast nbuf0_4)
abbrev ms_5 (t : Fin cfg0.N) : Memref sig .tc .vmem S256x1536 .bf16 := win0_5.stage (cfg0.slots t 5)
abbrev hs_5 (t : Fin cfg0.N) : (ms_5 t).IsWhole := hstage0_5 ((cfg0.slots t 5).cast nbuf0_5)
abbrev ms_6 (t : Fin cfg0.N) : Memref sig .tc .vmem S256x512 .bf16 := win0_6.stage (cfg0.slots t 6)
abbrev hs_6 (t : Fin cfg0.N) : (ms_6 t).IsWhole := hstage0_6 ((cfg0.slots t 6).cast nbuf0_6)
abbrev ms_7 (t : Fin cfg0.N) : Memref sig .tc .vmem S256x64 .bf16 := win0_7.stage (cfg0.slots t 7)
abbrev hs_7 (t : Fin cfg0.N) : (ms_7 t).IsWhole := hstage0_7 ((cfg0.slots t 7).cast nbuf0_7)
abbrev ms_8 (t : Fin cfg0.N) : Memref sig .tc .vmem S256x5120 .fp8e4m3 := win0_8.stage (cfg0.slots t 8)
abbrev hs_8 (t : Fin cfg0.N) : (ms_8 t).IsWhole := hstage0_8 ((cfg0.slots t 8).cast nbuf0_8)
abbrev ms_9 (t : Fin cfg0.N) : Memref sig .tc .vmem S256x40 .f32 := win0_9.stage (cfg0.slots t 9)
abbrev hs_9 (t : Fin cfg0.N) : (ms_9 t).IsWhole := hstage0_9 ((cfg0.slots t 9).cast nbuf0_9)
/-- The scratch operands: whole buffers of the kernel's own, passed beside the windows. -/
abbrev sc_0 : Memref sig .tc .vmem S2112x5120 .bf16 := Memref.whole cc0_scratch0
abbrev sc_1 : Memref sig .tc .vmem S256x5120 .bf16 := Memref.whole cc0_scratch1
abbrev sc_2 : Memref sig .tc .vmem S256x2048 .f32 := Memref.whole cc0_scratch2

/-- The body fills the weight scratch at the first point only. -/
theorem fill_iff : ∀ t : Fin cfg0.N, k0_cond1 (grid0.coords t) = 1#1 ↔ t.val % 16 = 0 :=
  (fun t => by
    have ht : t.val < 16 := Nat.lt_of_lt_of_eq t.isLt N_0
    have e0 : (grid0.coords t 0).val = t.val / 1 % 16 := Pipeline.Grid.coords_val t 0 (by decide) rfl
    simp only [k0_cond1, e0]
    word_cmp
   : ∀ t : Fin grid0.N, k0_cond1 (grid0.coords t) = 1#1 ↔ t.val % 16 = 0)

/-- The invariant of the launch with the scratch operands as memrefs owned at some contents. -/
theorem PhiA_eq (c : Dev nD) :
    (Pipeline.ΦA spec0 c : sProp 𝕄G)
      = iprop(iprop((∃ d, owns (c : Thread nD τ) sc_0 fullShare d) ∗ (∃ d, owns (c : Thread nD τ) sc_1 fullShare d) ∗ (∃ d, owns (c : Thread nD τ) sc_2 fullShare d)) ∗ (∃ r, prngReg c r)) := by
  unfold Pipeline.ΦA; rw [scopedRest0_eq]; simp only [sc_0, sc_1, sc_2, owns_whole]; try rfl

/-- The dequantised weight of the run: of the two whole-array inputs as the first point's blocks hold them. -/
def wAt (c : Dev nD) (t : Fin cfg0.N) : Vec F S2112x5120 .bf16 := WB (iblk m c 0 t) (iblk m c 2 t)

/-- Both inputs of the dequantised weight are whole arrays: their blocks are the same at every point. -/
theorem wAt_const (c : Dev nD) (t t' : Fin cfg0.N) : (wAt m c t : Vec F S2112x5120 .bf16) = wAt m c t' := by
  unfold wAt
  rw [show (iblk m c 0 t : Vec F S17x40 .f32) = iblk m c 0 t' from rfl, show (iblk m c 2 t : Vec F S2112x5120 .fp8e4m3) = iblk m c 2 t' from rfl]

/-- The invariant before position `n`: before the first point every scratch at anything; afterwards the weight scratch
    at the dequantised weight, the others at anything, and the generator register at some state. -/
def PhiS (c : Dev nD) : (n : ℕ) → n ≤ cfg0.N → sProp 𝕄G
  | 0, _ => Pipeline.ΦA spec0 c
  | n + 1, hn => iprop(iprop(owns (c : Thread nD τ) sc_0 fullShare (wAt m c ⟨n, hn⟩) ∗ (∃ d, owns (c : Thread nD τ) sc_1 fullShare d) ∗ (∃ d, owns (c : Thread nD τ) sc_2 fullShare d)) ∗ (∃ r, prngReg c r))

theorem PhiS_zero (c : Dev nD) (n : ℕ) (h : n ≤ cfg0.N) (hz : n = 0) : PhiS m c n h = Pipeline.ΦA spec0 c := by
  subst hz; rfl

/-- After point `n`: the weight scratch at the dequantised weight. -/
theorem PhiS_succ (c : Dev nD) (n : ℕ) (hn : n < cfg0.N) :
    PhiS m c (n + 1) hn = iprop(iprop(owns (c : Thread nD τ) sc_0 fullShare (wAt m c ⟨n, hn⟩) ∗ (∃ d, owns (c : Thread nD τ) sc_1 fullShare d) ∗ (∃ d, owns (c : Thread nD τ) sc_2 fullShare d)) ∗ (∃ r, prngReg c r)) := rfl

/-- Before a point that is not the first: the weight scratch at the dequantised weight. -/
theorem PhiS_pos (c : Dev nD) (n : ℕ) (h : n ≤ cfg0.N) (hz : n ≠ 0) :
    PhiS m c n h = iprop(iprop(owns (c : Thread nD τ) sc_0 fullShare (wAt m c ⟨n - 1, by omega⟩) ∗ (∃ d, owns (c : Thread nD τ) sc_1 fullShare d) ∗ (∃ d, owns (c : Thread nD τ) sc_2 fullShare d)) ∗ (∃ r, prngReg c r)) := by
  cases n with
  | zero => exact absurd rfl hz
  | succ n => rfl

/-! ## The proof data of the pipeline -/

/-- What the body leaves in each output window at point `t`. -/
def oat_5 (c : Dev nD) (t : Fin cfg0.N) : Vec F S256x1536 .bf16 :=
  out_5 c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) sc_0 (Memref.isWhole_whole _) sc_1 (Memref.isWhole_whole _) sc_2 (Memref.isWhole_whole _) (iblk m c 0 t) (iblk m c 1 t) (iblk m c 2 t) (iblk m c 3 t) (iblk m c 4 t)
def oat_6 (c : Dev nD) (t : Fin cfg0.N) : Vec F S256x512 .bf16 :=
  out_6 c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) sc_0 (Memref.isWhole_whole _) sc_1 (Memref.isWhole_whole _) sc_2 (Memref.isWhole_whole _) (iblk m c 0 t) (iblk m c 1 t) (iblk m c 2 t) (iblk m c 3 t) (iblk m c 4 t)
def oat_7 (c : Dev nD) (t : Fin cfg0.N) : Vec F S256x64 .bf16 :=
  out_7 c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) sc_0 (Memref.isWhole_whole _) sc_1 (Memref.isWhole_whole _) sc_2 (Memref.isWhole_whole _) (iblk m c 0 t) (iblk m c 1 t) (iblk m c 2 t) (iblk m c 3 t) (iblk m c 4 t)
def oat_8 (c : Dev nD) (t : Fin cfg0.N) : Vec F S256x5120 .fp8e4m3 :=
  out_8 c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) sc_0 (Memref.isWhole_whole _) sc_1 (Memref.isWhole_whole _) sc_2 (Memref.isWhole_whole _) (iblk m c 0 t) (iblk m c 1 t) (iblk m c 2 t) (iblk m c 3 t) (iblk m c 4 t)
def oat_9 (c : Dev nD) (t : Fin cfg0.N) : Vec F S256x40 .f32 :=
  out_9 c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) sc_0 (Memref.isWhole_whole _) sc_1 (Memref.isWhole_whole _) sc_2 (Memref.isWhole_whole _) (iblk m c 0 t) (iblk m c 1 t) (iblk m c 2 t) (iblk m c 3 t) (iblk m c 4 t)

/-- The proof data of the one pipeline on core `c`: the arrays as the region finds them; after the body at point `t` each
    input's buffer at its block and each output's at `oat_W`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => oat_5 m c t
    | ⟨6, _⟩ => oat_6 m c t
    | ⟨7, _⟩ => oat_7 m c t
    | ⟨8, _⟩ => oat_8 m c t
    | ⟨9, _⟩ => oat_9 m c t
  Φ t := PhiS m c t.val (Nat.le_of_lt_succ t.isLt)
  q _ := fullShare
  owed _ := 0

/-- The proof data's arrays are the contents the region is entered with. -/
theorem A_eq (c : Dev nD) (w : Fin cfg0.W) : (dats m 0 c).A w = V m c (Pipeline.arrRef spec0 w) := by
  dsimp only [dats]

/-- The invariant at a point's start, restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window. -/
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = oat_5 m c t := by dsimp only [dats]
theorem after_6 (c : Dev nD) (t : Fin cfg0.N) : (dats m 0 c).after 6 t = oat_6 m c t := by dsimp only [dats]
theorem after_7 (c : Dev nD) (t : Fin cfg0.N) : (dats m 0 c).after 7 t = oat_7 m c t := by dsimp only [dats]
theorem after_8 (c : Dev nD) (t : Fin cfg0.N) : (dats m 0 c).after 8 t = oat_8 m c t := by dsimp only [dats]
theorem after_9 (c : Dev nD) (t : Fin cfg0.N) : (dats m 0 c).after 9 t = oat_9 m c t := by dsimp only [dats]

/-- Each input's current staging buffer holds its block at every point, fetched there or not. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

/-! ## The body obligation, at a generic point -/

/-- What the body is called with at point `t`, the windows one by one, -/
def bodyPre (c : Dev nD) (t : Fin cfg0.N) : sProp 𝕄G :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d))
    ∗ (∃ d, owns (c : Thread nD τ) (ms_4 t) fullShare ((dats m 0 c).before 4 t d))
    ∗ (∃ d, owns (c : Thread nD τ) (ms_5 t) fullShare ((dats m 0 c).before 5 t d))
    ∗ (∃ d, owns (c : Thread nD τ) (ms_6 t) fullShare ((dats m 0 c).before 6 t d))
    ∗ (∃ d, owns (c : Thread nD τ) (ms_7 t) fullShare ((dats m 0 c).before 7 t d))
    ∗ (∃ d, owns (c : Thread nD τ) (ms_8 t) fullShare ((dats m 0 c).before 8 t d))
    ∗ (∃ d, owns (c : Thread nD τ) (ms_9 t) fullShare ((dats m 0 c).before 9 t d)))

/-- and what it returns. -/
def bodyPost (c : Dev nD) (t : Fin cfg0.N) : sProp 𝕄G :=
  iprop((dats m 0 c).Φ t.succ ∗ (dats m 0 c).owesAt () t.succ
    ∗ owns (c : Thread nD τ) (ms_0 t) fullShare ((dats m 0 c).after 0 t)
    ∗ owns (c : Thread nD τ) (ms_1 t) fullShare ((dats m 0 c).after 1 t)
    ∗ owns (c : Thread nD τ) (ms_2 t) fullShare ((dats m 0 c).after 2 t)
    ∗ owns (c : Thread nD τ) (ms_3 t) fullShare ((dats m 0 c).after 3 t)
    ∗ owns (c : Thread nD τ) (ms_4 t) fullShare ((dats m 0 c).after 4 t)
    ∗ owns (c : Thread nD τ) (ms_5 t) fullShare ((dats m 0 c).after 5 t)
    ∗ owns (c : Thread nD τ) (ms_6 t) fullShare ((dats m 0 c).after 6 t)
    ∗ owns (c : Thread nD τ) (ms_7 t) fullShare ((dats m 0 c).after 7 t)
    ∗ owns (c : Thread nD τ) (ms_8 t) fullShare ((dats m 0 c).after 8 t)
    ∗ owns (c : Thread nD τ) (ms_9 t) fullShare ((dats m 0 c).after 9 t))

set_option maxHeartbeats 4000000 in
/-- The body at any point, from any contents of the weight scratch where it fills it, from the dequantised weight
    elsewhere: it leaves every output at `oat_W` and the weight scratch at the dequantised weight. -/
theorem sound_at (c : Dev nD) (t : Fin cfg0.N) (xs : Vec F S2112x5120 .bf16)
    (hxs : k0_cond1 (grid0.coords t) = 1#1 ∨ xs = wAt m c t) :
    iprop(iprop(iprop(owns (c : Thread nD τ) sc_0 fullShare xs ∗ (∃ d, owns (c : Thread nD τ) sc_1 fullShare d) ∗ (∃ d, owns (c : Thread nD τ) sc_2 fullShare d)) ∗ (∃ r, prngReg c r)) ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d))
    ∗ (∃ d, owns (c : Thread nD τ) (ms_4 t) fullShare ((dats m 0 c).before 4 t d))
    ∗ (∃ d, owns (c : Thread nD τ) (ms_5 t) fullShare ((dats m 0 c).before 5 t d))
    ∗ (∃ d, owns (c : Thread nD τ) (ms_6 t) fullShare ((dats m 0 c).before 6 t d))
    ∗ (∃ d, owns (c : Thread nD τ) (ms_7 t) fullShare ((dats m 0 c).before 7 t d))
    ∗ (∃ d, owns (c : Thread nD τ) (ms_8 t) fullShare ((dats m 0 c).before 8 t d))
    ∗ (∃ d, owns (c : Thread nD τ) (ms_9 t) fullShare ((dats m 0 c).before 9 t d)))
    ⊢ wp frame (wpE (defs₀ (F := F)) Variants.none c none) Set.univ (bodyAt0 t) (fun _ => bodyPost m c t) := by
  unfold bodyPost bodyAt0
  simp only [before_0, before_1, before_2, before_3, before_4]
  rw [show (dats m 0 c).owesAt () t.succ = (dats m 0 c).owesAt () t.castSucc from rfl,
    after_0, after_1, after_2, after_3, after_4, after_5, after_6, after_7, after_8, after_9]
  rw [show (dats m 0 c).Φ t.succ = PhiS m c (t.val + 1) t.isLt from rfl, PhiS_succ]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((kernelRun c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) sc_0 (Memref.isWhole_whole _) sc_1 (Memref.isWhole_whole _) sc_2 (Memref.isWhole_whole _) (iblk m c 0 t) (iblk m c 1 t) (iblk m c 2 t) (iblk m c 3 t) (iblk m c 4 t)).2 xs hxs Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  isplitl [H9]; · iexists _; iexact H9
  isplitl [HS0]; · iexact HS0
  isplitl [HS1]; · iexact HS1
  isplitl [HS2]; · iexact HS2
  iintro ⟨H0, H1, H2, H3, H4, ⟨%e5, H5⟩, ⟨%e6, H6⟩, ⟨%e7, H7⟩, ⟨%e8, H8⟩, ⟨%e9, H9⟩, HS0, HS1, HS2⟩
  isplitl [HS0 HS1 HS2 Hg]
  · isplitl [HS0 HS1 HS2]
    · isplitl [HS0]
      · iexact HS0
      isplitl [HS1]
      · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_eq_canon _ _ _ (cover_5 c _ _ _ _ _ _ _ _ _ _ _ _ _ _ _ _ _ _ _ _ _ _ _ _ _ _ _ _ _ _ _ _)
  isplitl [H6]
  · unfold owns; iexists _; isplitr
    swap; · iexact H6
    ipureintro; exact View.read_writes_eq_canon _ _ _ (cover_6 c _ _ _ _ _ _ _ _ _ _ _ _ _ _ _ _ _ _ _ _ _ _ _ _ _ _ _ _ _ _ _ _)
  isplitl [H7]
  · unfold owns; iexists _; isplitr
    swap; · iexact H7
    ipureintro; exact View.read_writes_eq_canon _ _ _ (cover_7 c _ _ _ _ _ _ _ _ _ _ _ _ _ _ _ _ _ _ _ _ _ _ _ _ _ _ _ _ _ _ _ _)
  isplitl [H8]
  · unfold owns; iexists _; isplitr
    swap; · iexact H8
    ipureintro; exact View.read_writes_eq_canon _ _ _ (cover_8 c _ _ _ _ _ _ _ _ _ _ _ _ _ _ _ _ _ _ _ _ _ _ _ _ _ _ _ _ _ _ _ _)
  unfold owns; iexists _; isplitr
  swap; · iexact H9
  ipureintro; exact View.read_writes_eq_canon _ _ _ (cover_9 c _ _ _ _ _ _ _ _ _ _ _ _ _ _ _ _ _ _ _ _ _ _ _ _ _ _ _ _ _ _ _ _)

/-- The body at any point, from the invariant before it. -/
theorem sound_body (c : Dev nD) (t : Fin cfg0.N) :
    bodyPre m c t ⊢ wp frame (wpE (defs₀ (F := F)) Variants.none c none) Set.univ (bodyAt0 t) (fun _ => bodyPost m c t) := by
  unfold bodyPre
  by_cases hz : t.val = 0
  · rw [PhiS_castSucc m c t, PhiS_zero m c _ _ hz, PhiA_eq]
    iintro ⟨⟨⟨⟨%xs, HS0⟩, HS1, HS2⟩, Hg⟩, Hr⟩
    iapply (sound_at m c t xs (Or.inl ((fill_iff t).mpr (by rw [hz]))))
    isplitr [Hr]
    · isplitr [Hg]
      · isplitl [HS0]; · iexact HS0
        isplitl [HS1]; · iexact HS1
        iexact HS2
      iexact Hg
    iexact Hr
  · rw [PhiS_castSucc m c t, PhiS_pos m c _ _ hz]
    exact sound_at m c t _ (Or.inr (wAt_const m c _ t))

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body obligation of the pipeline, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the launch's back: the weight scratch's contents are forgotten. -/
theorem hout (c : Dev nD) : (dats m 0 c).Φ (Fin.last cfg0.N) ⊢ Pipeline.ΦA spec0 c := by
  have ht : (Fin.last cfg0.N).val ≠ 0 := by rw [Fin.val_last]; have : cfg0.N = 16 := N_0; omega
  rw [show (dats m 0 c).Φ (Fin.last cfg0.N) = PhiS m c (Fin.last cfg0.N).val (Nat.le_of_lt_succ (Fin.last cfg0.N).isLt) from rfl, PhiS_pos m c _ _ ht, PhiA_eq]
  iintro ⟨⟨HS0, HS1, HS2⟩, Hg⟩
  isplitl [HS0 HS1 HS2]
  · isplitl [HS0]
    · iexists _; iexact HS0
    isplitl [HS1]
    · iexact HS1
    iexact HS2
  iexact Hg

/-! ## The run and the frame -/

set_option backward.isDefEq.respectTransparency.types false in
/-- The run: every weakly fair execution terminates with every array of the pipeline at what the proof data give, every
    other buffer as the region found it, and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The run without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The frame of the idealised kernel: it terminates, leaves its arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Kernel.Hand
-- ==== Proof.RefScale.lean ====
module

public import proofs.«01_k».proof.Proof.Spec
public import proofs.«01_k».proof.Proof.Gen.ReferenceIdeal.Run
public import Idealize.ShloMosaic.Lib.Pointwise
public import Idealize.ShloMosaic.Lib.IdealHost

@[expose] public section

set_option maxRecDepth 16384

noncomputable section

namespace Cert.ReferenceIdeal.Hand

open Idealize.ShloMosaic Idealize.ShloMosaic.TcCoe Idealize.SL.Sem Idealize.ShloMosaic.StableHlo
open Cert.Spec Cert.ReferenceIdeal Cert.ReferenceIdeal.Gen

/-! ## The reference's scales, on the extended reals -/

theorem f448 : Ideal.ofBits .f32 0x43E00000#32 = 448 := by
  rw [f32_normal 0x43E00000#32 135 6291456 rfl rfl rfl (by decide) (by decide), ← coe448, EReal.coe_eq_coe_iff]; norm_num
theorem fTiny : Ideal.ofBits .f32 0x04E00000#32 = 448 * pw (-126) := by
  rw [f32_normal 0x04E00000#32 9 6291456 rfl rfl rfl (by decide) (by decide), mul_comm 448, pw_448, EReal.coe_eq_coe_iff]; norm_num
theorem f120 : Ideal.ofBits .f32 0x7B800000#32 = pw 120 := by
  rw [f32_normal 0x7B800000#32 247 0 rfl rfl rfl (by decide) (by decide), pw, EReal.coe_eq_coe_iff]; norm_num
theorem fOne : Ideal.ofBits .f32 0x3F800000#32 = 1 := by
  rw [f32_normal 0x3F800000#32 127 0 rfl rfl rfl (by decide) (by decide), ← EReal.coe_one, EReal.coe_eq_coe_iff]; norm_num
theorem fTwo : Ideal.ofBits .f32 0x40000000#32 = ((2 : ℝ) : EReal) := by
  rw [f32_normal 0x40000000#32 128 0 rfl rfl rfl (by decide) (by decide), EReal.coe_eq_coe_iff]; norm_num
theorem fBot : Ideal.ofBits .f32 0xFF800000#32 = ⊥ := by
  simp [Ideal.ofBits, Ideal.ieee]
theorem fTop : Ideal.ofBits .f32 0x7F800000#32 = ⊤ := by
  simp [Ideal.ofBits, Ideal.ieee]

theorem select_ite {α : Type} (p : Prop) [Decidable p] (x y : α) : Scalar.select (BitVec.ofBool (decide p)) x y = if p then x else y := by
  unfold Scalar.select
  by_cases h : p <;> simp [h]

theorem sel_olt {s : Shape} {φ : FTy} {α : Type} (a b : FVec Ideal s φ) (u v : s.Idx → α) (y : s.Idx) :
    select (cmpf .olt a b) u v y = if a y < b y then u y else v y := select_ite _ _ _

/-- The activations in blocks of 128. -/
abbrev xg (x : FVec Ideal S1x4096x5120 .bf16) : FVec Ideal S4096x40x128 .f32 :=
  shapeCast _ (extf .f32 x bitsLt_bf16_f32) shapeCasts_S1x4096x5120_S4096x40x128

theorem xg_apply (x : FVec Ideal S1x4096x5120 .bf16) (i : Fin 4096) (k : Fin 40) (j : Fin 128) :
    xg x (ix3 i k j) = row x i (col k j) := by
  unfold xg
  refine (shapeCast_apply _ shapeCasts_S1x4096x5120_S4096x40x128 (ix3 i k j) (ix3 0 i (col k j)) ?_).trans rfl
  rw [Shape.rowMajor_val_three, Shape.rowMajor_val_three]
  show (0 * 4096 + i.val) * 5120 + (k.val * 128 + j.val) = (i.val * 40 + k.val) * 128 + j.val
  ring

/-- The absolute maximum of every block. -/
abbrev amax (x : FVec Ideal S4096x40x128 .f32) : FVec Ideal S4096x40 .f32 :=
  Host.reduce FloatOps.maximumf (Host.absf x) (constant S_ .f32 0xFF800000#32) reducesTo_S4096x40x128_S4096x40_d2 h_S_

theorem amax_apply (x : FVec Ideal S4096x40x128 .f32) (i : Fin 4096) (k : Fin 40) : amax x (ix2 i k) = absMax fun j => x (ix3 i k j) := by
  unfold amax absMax
  pointwise
  rw [← fBot]
  rfl

/-- The 246 powers of two. -/
abbrev powers : FVec Ideal S246 .f32 :=
  Host.powf (broadcastInDim S246 ![] bcast_S_S246 (constant S_ .f32 0x40000000#32)) (sitofp .f32 (addi (broadcastInDim S246 ![] bcast_S_S246 (constantI S_ 32 4294967171#32)) (iotaInDim S246 32 0)))

theorem toInt_exp (e : Fin 246) : (4294967171#32 + BitVec.ofNat 32 e.val).toInt = -125 + (e.val : ℤ) := by
  revert e; decide +kernel

theorem powers_apply (e : Fin 246) : powers (ix1 e) = pw (-125 + (e.val : ℤ)) := by
  have h : powers (ix1 e) = Ideal.pow (Ideal.ofBits .f32 0x40000000#32) (((4294967171#32 + BitVec.ofNat 32 e.val).toInt : ℝ) : EReal) := rfl
  rw [h, fTwo, toInt_exp, Ideal.pow_coe_coe, pw]
  congr 1
  exact Real.rpow_intCast _ _

/-- What every power offers to a block. -/
abbrev offers (a : FVec Ideal S4096x40 .f32) (p : FVec Ideal S246 .f32) : FVec Ideal S4096x40x246 .f32 :=
  select (cmpf .olt (broadcastInDim S4096x40x246 ![0, 1, 2] bcast_S4096x40x1_S4096x40x246_0_1_2 (broadcastInDim S4096x40x1 ![0, 1] bcast_S4096x40_S4096x40x1_0_1 a)) (broadcastInDim S4096x40x246 ![0, 1, 2] bcast_S1x1x246_S4096x40x246_0_1_2 (broadcastInDim S1x1x246 ![2] bcast_S246_S1x1x246_2 (mulf p (broadcastInDim S246 ![] bcast_S_S246 (constant S_ .f32 0x43E00000#32)))))) (broadcastInDim S4096x40x246 ![2] bcast_S246_S4096x40x246_2 p) (broadcastInDim S4096x40x246 ![] bcast_S_S4096x40x246 (constant S_ .f32 0x7B800000#32))

theorem offers_apply (a : FVec Ideal S4096x40 .f32) (i : Fin 4096) (k : Fin 40) (e : Fin 246) :
    offers a powers (ix3 i k e) = offer (a (ix2 i k)) e.val := by
  have h : ∀ p : FVec Ideal S246 .f32, offers a p (ix3 i k e) = if a (ix2 i k) < p (ix1 e) * Ideal.ofBits .f32 0x43E00000#32 then p (ix1 e) else Ideal.ofBits .f32 0x7B800000#32 := by
    intro p
    unfold offers
    rw [sel_olt]
    pointwise
  rw [h, powers_apply, f448, f120, offer]

/-- The scale of every block. -/
abbrev scale (a : FVec Ideal S4096x40 .f32) : FVec Ideal S4096x40 .f32 :=
  select (cmpf .olt a (broadcastInDim S4096x40 ![] bcast_S_S4096x40 (constant S_ .f32 0x04E00000#32))) (broadcastInDim S4096x40 ![] bcast_S_S4096x40 (constant S_ .f32 0x3F800000#32)) (Host.reduce FloatOps.minimumf (offers a powers) (constant S_ .f32 0x7F800000#32) reducesTo_S4096x40x246_S4096x40_d2 h_S_)

theorem minOver_apply (T : FVec Ideal S4096x40x246 .f32) (i : Fin 4096) (k : Fin 40) :
    Host.reduce FloatOps.minimumf T (constant S_ .f32 0x7F800000#32) reducesTo_S4096x40x246_S4096x40_d2 h_S_ (ix2 i k) = (Finset.univ : Finset (Fin 246)).fold min ⊤ fun e => T (ix3 i k e) := by
  pointwise
  rw [← fTop]

theorem scale_apply (a : FVec Ideal S4096x40 .f32) (i : Fin 4096) (k : Fin 40) : scale a (ix2 i k) = scaleOf (a (ix2 i k)) := by
  unfold scale scaleOf
  rw [sel_olt, minOver_apply, ← fTiny, ← fOne]
  simp only [offers_apply]
  rfl

/-- The reference's scales are the scales of the rows. -/
theorem scale_row (x : FVec Ideal S1x4096x5120 .bf16) : scale (amax (xg x)) = scales x := by
  refine ext2 fun i k => ?_
  rw [scale_apply, amax_apply]
  simp only [xg_apply]
  rfl

/-- The values cut to the codes' range. -/
abbrev clipped (x : FVec Ideal S4096x40x128 .f32) (s : FVec Ideal S4096x40 .f32) : FVec Ideal S4096x5120 .f32 :=
  shapeCast _ (minimumf (broadcastInDim S4096x40x128 ![] bcast_S_S4096x40x128 (constant S_ .f32 0x43E00000#32)) (maximumf (broadcastInDim S4096x40x128 ![] bcast_S_S4096x40x128 (constant S_ .f32 0xC3E00000#32))
    (mulf x (broadcastInDim S4096x40x128 ![0, 1, 2] bcast_S4096x40x1_S4096x40x128_0_1_2 (broadcastInDim S4096x40x1 ![0, 1] bcast_S4096x40_S4096x40x1_0_1
      (Host.divf (broadcastInDim S4096x40 ![] bcast_S_S4096x40 (constant S_ .f32 0x3F800000#32)) s)))))) shapeCasts_S4096x40x128_S4096x5120

/-- The column of a block a column is. -/
def lane (j : Fin 5120) : Fin 128 := ⟨j.val % 128, by omega⟩

theorem col_blk (j : Fin 5120) : col (blk j) (lane j) = j := Fin.ext (by show j.val / 128 * 128 + j.val % 128 = j.val; omega)

theorem clipped_apply (x : FVec Ideal S4096x40x128 .f32) (s : FVec Ideal S4096x40 .f32) (i : Fin 4096) (j : Fin 5120) :
    clipped x s (ix2 i j) = min (Ideal.ofBits .f32 0x43E00000#32) (max (Ideal.ofBits .f32 0xC3E00000#32) (x (ix3 i (blk j) (lane j)) * Ideal.div 1 (s (ix2 i (blk j))))) := by
  unfold clipped
  refine (shapeCast_apply _ shapeCasts_S4096x40x128_S4096x5120 (ix2 i j) (ix3 i (blk j) (lane j)) ?_).trans ?_
  · rw [Shape.rowMajor_val_three, Shape.rowMajor_val_two]
    show (i.val * 40 + j.val / 128) * 128 + j.val % 128 = i.val * 5120 + j.val
    omega
  · pointwise

/-- The reference's clipped values are the codes of the rows. -/
theorem clipped_row (x : FVec Ideal S1x4096x5120 .bf16) : clipped (xg x) (scale (amax (xg x))) = codes x := by
  refine ext2 fun i j => ?_
  rw [clipped_apply, scale_row, xg_apply, col_blk]
  rfl

end Cert.ReferenceIdeal.Hand
-- ==== Proof.RefTail.lean ====
module

public import proofs.«01_k».proof.Proof.RefScale
public import proofs.«01_k».proof.Proof.Gen.ReferenceIdeal.Read

@[expose] public section

set_option maxRecDepth 16384

noncomputable section

namespace Cert.ReferenceIdeal.Hand

open Idealize.ShloMosaic Idealize.ShloMosaic.TcCoe Idealize.SL.Sem Idealize.ShloMosaic.StableHlo
open Cert.Spec Cert.ReferenceIdeal Cert.ReferenceIdeal.Gen Cert.ReferenceIdeal.Read

/-! ## What the reference computes from the codes, the weight and the scales -/

variable (s : FVec Ideal S17x40 .f32) (gc : FVec Ideal S512 .bf16) (gq : FVec Ideal S1536 .bf16)
  (r1 : FVec Ideal S4096x5120 .bf16) (r2 : FVec Ideal S2112x5120 .bf16) (e0 : FVec Ideal S4096x40 .f32)

/-- The codes at their scales. -/
theorem xb_apply (i : Fin 4096) (j : Fin 5120) : val_main_v35 (F := Ideal) r1 e0 (ix2 i j) = r1 (ix2 i j) * e0 (ix2 i (blk j)) := by
  rw [val_main_v35_apply, val_main_v34_apply, val_main_v30_apply, val_main_v33_apply, val_main_v32_apply, val_main_v31_apply]
  have hi := i.isLt
  have hj := j.isLt
  have e1 : idx_main_v30 (idx_main_v35 (ix2 i j)) = ix2 i j := funext fun a => Fin.ext (match a with
    | ⟨0, _⟩ => by
      show (((i.val * 5120 + j.val) / 5120 * 40 + (i.val * 5120 + j.val) / 128 % 40) * 128 + (i.val * 5120 + j.val) % 128) / 5120 = i.val
      omega
    | ⟨1, _⟩ => by
      show (((i.val * 5120 + j.val) / 5120 * 40 + (i.val * 5120 + j.val) / 128 % 40) * 128 + (i.val * 5120 + j.val) % 128) % 5120 = j.val
      omega)
  have e2 : idx_main_v32 (idx_main_v33 (idx_main_v35 (ix2 i j))) = ix2 i (blk j) := funext fun a => Fin.ext (match a with
    | ⟨0, _⟩ => by
      show (i.val * 5120 + j.val) / 5120 = i.val
      omega
    | ⟨1, _⟩ => by
      show (i.val * 5120 + j.val) / 128 % 40 = j.val / 128
      omega)
  rw [e1, e2]
  rfl

/-- The dequantised weight. -/
theorem wb_apply (n : Fin 2112) (j : Fin 5120) :
    val_main_v42 (F := Ideal) s r2 (ix2 n j) = r2 (ix2 n j) * s (ix2 ⟨n.val / 128, by omega⟩ (blk j)) := by
  rw [val_main_v42_apply, val_main_v41_apply, val_main_v40_apply, val_main_v39_apply, val_main_v38_apply, val_main_v37_apply, val_main_v36_apply]
  have hn := n.isLt
  have hj := j.isLt
  have e : idx_main_v36 (idx_main_v37 (idx_main_v38 (idx_main_v39 (idx_main_v40 (ix2 n j))))) = ix2 ⟨n.val / 128, by omega⟩ (blk j) :=
    funext fun a => Fin.ext (match a with
    | ⟨0, _⟩ => by
      show ((n.val * 5120 + j.val) / 5120 * 40 + (n.val * 5120 + j.val) / 128 % 40) / 5120 = n.val / 128
      omega
    | ⟨1, _⟩ => by
      show ((n.val * 5120 + j.val) / 5120 * 40 + (n.val * 5120 + j.val) / 128 % 40) % 40 = j.val / 128
      omega)
  rw [e]
  rfl

/-- The product. -/
theorem y_apply (i : Fin 4096) (n : Fin 2112) : val_main_v43 (F := Ideal) s r1 r2 e0 (ix2 i n)
    = ∑ j : Fin 5120, r1 (ix2 i j) * e0 (ix2 i (blk j)) * (r2 (ix2 n j) * s (ix2 ⟨n.val / 128, by omega⟩ (blk j))) := by
  rw [val_main_v43_apply]
  refine Finset.sum_congr rfl fun j _ => ?_
  have el : lidx_main_v43 (ix2 i n) j = ix2 i j := funext fun a => Fin.ext (match a with | ⟨0, _⟩ => rfl | ⟨1, _⟩ => rfl)
  have er : ridx_main_v43 (ix2 i n) j = ix2 n j := funext fun a => Fin.ext (match a with | ⟨0, _⟩ => rfl | ⟨1, _⟩ => rfl)
  rw [el, er, xb_apply, wb_apply]

/-- The first 1536 columns of the product. -/
theorem y44_apply (i : Fin 4096) (l : Fin 1536) :
    val_main_v44 (F := Ideal) s r1 r2 e0 (ix2 i l) = val_main_v43 (F := Ideal) s r1 r2 e0 (ix2 i (⟨0 + l.val, by omega⟩ : Fin 2112)) := by
  rw [val_main_v44_apply]
  exact congrArg _ (funext fun a => Fin.ext (match a with | ⟨0, _⟩ => rfl | ⟨1, _⟩ => (Nat.zero_add _).symm))

/-- The next 512 columns of the product. -/
theorem y45_apply (i : Fin 4096) (l : Fin 512) :
    val_main_v45 (F := Ideal) s r1 r2 e0 (ix2 i l) = val_main_v43 (F := Ideal) s r1 r2 e0 (ix2 i (⟨1536 + l.val, by omega⟩ : Fin 2112)) := by
  rw [val_main_v45_apply]
  exact congrArg _ (funext fun a => Fin.ext (match a with | ⟨0, _⟩ => rfl | ⟨1, _⟩ => rfl))

/-- The last 64 columns of the product. -/
theorem y46_apply (i : Fin 4096) (l : Fin 64) :
    val_main_v46 (F := Ideal) s r1 r2 e0 (ix2 i l) = val_main_v43 (F := Ideal) s r1 r2 e0 (ix2 i (⟨2048 + l.val, by omega⟩ : Fin 2112)) := by
  rw [val_main_v46_apply]
  exact congrArg _ (funext fun a => Fin.ext (match a with | ⟨0, _⟩ => rfl | ⟨1, _⟩ => rfl))

/-- The first result is the normalisation of the first 1536 columns. -/
theorem q_apply (i : Fin 4096) (n : Fin 1536) : val_main_v61 (F := Ideal) s gq r1 r2 e0 (ix2 i n)
    = rms (Ideal.ofBits .f32 0x44C00000#32) (fun l : Fin 1536 => val_main_v44 (F := Ideal) s r1 r2 e0 (ix2 i l)) (fun l => gq (ix1 l)) n := by
  rw [val_main_v61_apply, val_main_v60_apply, val_main_v56_apply, val_main_v55_apply, val_main_v54_apply, val_main_v53_apply, val_main_v52_apply,
    val_main_cst_11_apply, val_main_v51_apply, val_main_v50_apply, val_main_cst_10_apply, val_main_v49_apply, val_main_v48_apply, val_main_cst_9_apply,
    val_main_v59_apply, val_main_v58_apply, val_main_v57_apply]
  have e1 : idx_main_v58 (idx_main_v59 (ix2 i n)) = ix1 n := funext fun a => Fin.ext (match a with | ⟨0, _⟩ => rfl)
  have e2 : ∀ l : Fin 1536, idx_main_v48 (idx_main_v49 (idx_main_v55 (ix2 i n))) l = ix2 i l := fun l => funext fun a => Fin.ext (match a with | ⟨0, _⟩ => rfl | ⟨1, _⟩ => rfl)
  simp only [e1, e2, val_main_v47_apply]
  have e0 : (FloatOps.ofBits .f32 0x00000000#32 : Ideal .f32) = 0 := Ideal.ofBits_zero_f32
  rw [e0, zero_add]
  rfl

/-- The second result is the normalisation of the next 512 columns. -/
theorem c_apply (i : Fin 4096) (n : Fin 512) : val_main_v76 (F := Ideal) s gc r1 r2 e0 (ix2 i n)
    = rms (Ideal.ofBits .f32 0x44000000#32) (fun l : Fin 512 => val_main_v45 (F := Ideal) s r1 r2 e0 (ix2 i l)) (fun l => gc (ix1 l)) n := by
  rw [val_main_v76_apply, val_main_v75_apply, val_main_v71_apply, val_main_v70_apply, val_main_v69_apply, val_main_v68_apply, val_main_v67_apply,
    val_main_cst_14_apply, val_main_v66_apply, val_main_v65_apply, val_main_cst_13_apply, val_main_v64_apply, val_main_v63_apply, val_main_cst_12_apply,
    val_main_v74_apply, val_main_v73_apply, val_main_v72_apply]
  have e1 : idx_main_v73 (idx_main_v74 (ix2 i n)) = ix1 n := funext fun a => Fin.ext (match a with | ⟨0, _⟩ => rfl)
  have e2 : ∀ l : Fin 512, idx_main_v63 (idx_main_v64 (idx_main_v70 (ix2 i n))) l = ix2 i l := fun l => funext fun a => Fin.ext (match a with | ⟨0, _⟩ => rfl | ⟨1, _⟩ => rfl)
  simp only [e1, e2, val_main_v62_apply]
  have e0 : (FloatOps.ofBits .f32 0x00000000#32 : Ideal .f32) = 0 := Ideal.ofBits_zero_f32
  rw [e0, zero_add]
  rfl

/-! ### At the codes and scales of the rows -/

variable (x : FVec Ideal S1x4096x5120 .bf16)

theorem y_row (i : Fin 4096) (n : Fin 2112) : val_main_v43 (F := Ideal) s (codes x) r2 (scales x) (ix2 i n) = rowY (row x i) (wt r2 s) n :=
  (y_apply s (codes x) r2 (scales x) i n).trans rfl

theorem q_row : val_main_v61 (F := Ideal) s gq (codes x) r2 (scales x) = qNorm x r2 s gq := by
  refine ext2 fun i n => ?_
  rw [q_apply, qNorm_ix]
  simp only [y44_apply, y_row]
  rfl

theorem c_row : val_main_v76 (F := Ideal) s gc (codes x) r2 (scales x) = cNorm x r2 s gc := by
  refine ext2 fun i n => ?_
  rw [c_apply, cNorm_ix]
  simp only [y45_apply, y_row]
  rfl

theorem k_row : val_main_v77 (F := Ideal) s (codes x) r2 (scales x) = kPe x r2 s := by
  refine ext2 fun i n => ?_
  rw [val_main_v77_apply, y46_apply, y_row]
  rfl

end Cert.ReferenceIdeal.Hand
-- ==== Proof.RefArrays.lean ====
module

public import proofs.«01_k».proof.Proof.RefTail
public import Idealize.ShloMosaic.Lib.Pipeline.ValueKit

@[expose] public section

set_option maxRecDepth 16384

noncomputable section

namespace Cert.ReferenceIdeal.Hand

open Idealize.ShloMosaic Idealize.ShloMosaic.TcCoe Idealize.SL.Sem Idealize.ShloMosaic.StableHlo
open Cert.Spec Cert.ReferenceIdeal Cert.ReferenceIdeal.Gen Cert.ReferenceIdeal.Read Cert.ReferenceIdeal.Value

variable (m : (ℓ : Loc nD τ sig) → Buf (Elt Ideal) ℓ) (c : Dev nD) (ρ : Dev nD → PrngReg)

/-! ## The reference's region: three casts -/

theorem pay1_eq (x : Vec Ideal S4096x5120 .f32) : k0_pay1 x = x := by
  unfold k0_pay1
  rw [shapeCast_self]
  rfl
theorem pay2_eq (x : Vec Ideal S4096x5120 .f32) : k0_pay2 x = x := by
  unfold k0_pay2
  rw [pay1_eq]
  rfl
theorem pay3_eq (x : Vec Ideal S2112x5120 .fp8e4m3) : k0_pay3 x = x := rfl

theorem out2_eq (x0 : Vec Ideal S4096x5120 .f32) (x1 : Vec Ideal S2112x5120 .fp8e4m3) : out0_2 x0 x1 = x0 := by
  unfold out0_2
  rw [View.canon_unit_zero (by decide), View.ld_unit_zero (by decide)]
  exact pay1_eq x0
theorem out3_eq (x0 : Vec Ideal S4096x5120 .f32) (x1 : Vec Ideal S2112x5120 .fp8e4m3) : out0_3 x0 x1 = x0 := by
  unfold out0_3
  rw [View.canon_unit_zero (by decide), View.ld_unit_zero (by decide)]
  exact pay2_eq x0
theorem out4_eq (x0 : Vec Ideal S4096x5120 .f32) (x1 : Vec Ideal S2112x5120 .fp8e4m3) : out0_4 x0 x1 = x1 := by
  unfold out0_4
  rw [View.canon_unit_zero (by decide), View.ld_unit_zero (by decide)]
  exact pay3_eq x1

set_option maxHeartbeats 2000000 in
/-- What the region finds in its first array: the clipped values. -/
theorem V_v28 : V m c main_v28 = clipped (xg (m ((c.tc : Thread nD τ).loc main_arg0))) (scale (amax (xg (m ((c.tc : Thread nD τ).loc main_arg0))))) := by
  show Gen.V0 m c (Proc.devRef .tc main_v28) = _
  simp only [Gen.V0, Gen.hostOps0, Gen.hostOps0_1, Gen.hostOps0_2, Gen.hostOps0_3, Gen.hostOps0_4, Gen.hostOps0_5, Gen.hostOps0_6, TRef.binary, TRef.ternary, TRef.unary, TRef.toBuf, TRef.ofBuf, cast_eq, List.flatten_cons, List.flatten_nil, List.append_nil, List.cons_append, List.nil_append]
  after_results_simp <;> rfl

/-- The block of the first window is its array. -/
theorem iblk_0 (t : Fin cfg0.N) : (iblk m c 0 t : Vec Ideal S4096x5120 .f32) = V m c main_v28 := by
  funext y
  show V m c main_v28 ((win0_0.rect t).emb y) = _
  refine congrArg (V m c main_v28) (funext fun a => Fin.ext ?_)
  match a with
  | ⟨0, _⟩ => exact win0_0.rect_emb_val_of_index_zero t 0 rfl y
  | ⟨1, _⟩ => exact win0_0.rect_emb_val_of_index_zero t 1 rfl y

/-- The block of the second window is its array. -/
theorem iblk_1 (t : Fin cfg0.N) : (iblk m c 1 t : Vec Ideal S2112x5120 .fp8e4m3) = V m c main_arg1 := by
  funext y
  show V m c main_arg1 ((win0_1.rect t).emb y) = _
  refine congrArg (V m c main_arg1) (funext fun a => Fin.ext ?_)
  match a with
  | ⟨0, _⟩ => exact win0_1.rect_emb_val_of_index_zero t 0 rfl y
  | ⟨1, _⟩ => exact win0_1.rect_emb_val_of_index_zero t 1 rfl y

/-- The first array the region leaves: the codes. -/
theorem reg_0 : reg_main_v29_0 m c = codes (m ((c.tc : Thread nD τ).loc main_arg0)) := by
  rw [← clipped_row, ← V_v28]
  refine (dats m 0 c).arrAt_eq_of_covers 2 _ (by decide +kernel : win0_2.Covers) fun t _ y => ?_
  have e : (dats m 0 c).after 2 t = V m c main_v28 := (after0_2 m c t).trans ((out2_eq _ _).trans (iblk_0 m c t))
  refine (congrFun e y).trans (congrArg (V m c main_v28) (funext fun a => Fin.ext ?_))
  match a with
  | ⟨0, _⟩ => exact (win0_2.rect_emb_val_of_index_zero t 0 rfl y).symm
  | ⟨1, _⟩ => exact (win0_2.rect_emb_val_of_index_zero t 1 rfl y).symm

/-- The second array the region leaves: the codes again. -/
theorem reg_1 : reg_main_v29_1 m c = codes (m ((c.tc : Thread nD τ).loc main_arg0)) := by
  rw [← clipped_row, ← V_v28]
  refine (dats m 0 c).arrAt_eq_of_covers 3 _ (by decide +kernel : win0_3.Covers) fun t _ y => ?_
  have e : (dats m 0 c).after 3 t = V m c main_v28 := (after0_3 m c t).trans ((out3_eq _ _).trans (iblk_0 m c t))
  refine (congrFun e y).trans (congrArg (V m c main_v28) (funext fun a => Fin.ext ?_))
  match a with
  | ⟨0, _⟩ => exact (win0_3.rect_emb_val_of_index_zero t 0 rfl y).symm
  | ⟨1, _⟩ => exact (win0_3.rect_emb_val_of_index_zero t 1 rfl y).symm

/-- The third array the region leaves: the weight codes. -/
theorem reg_2 : reg_main_v29_2 m c = m ((c.tc : Thread nD τ).loc main_arg1) := by
  rw [← Gen.V_main_arg1 m c]
  refine (dats m 0 c).arrAt_eq_of_covers 4 _ (by decide +kernel : win0_4.Covers) fun t _ y => ?_
  have e : (dats m 0 c).after 4 t = V m c main_arg1 := (after0_4 m c t).trans ((out4_eq _ _).trans (iblk_1 m c t))
  refine (congrFun e y).trans (congrArg (V m c main_arg1) (funext fun a => Fin.ext ?_))
  match a with
  | ⟨0, _⟩ => exact (win0_4.rect_emb_val_of_index_zero t 0 rfl y).symm
  | ⟨1, _⟩ => exact (win0_4.rect_emb_val_of_index_zero t 1 rfl y).symm

/-! ## The five results -/

/-- The fifth result: the scales. -/
theorem res_s : exitV m c (Proc.devRef .tc main_v21) = scales (m ((c.tc : Thread nD τ).loc main_arg0)) :=
  (exit_main_v21 m c).trans (scale_row (m ((c.tc : Thread nD τ).loc main_arg0)))

/-- The first result. -/
theorem res_q : res_main_v61 m c = qNorm (m ((c.tc : Thread nD τ).loc main_arg0)) (m ((c.tc : Thread nD τ).loc main_arg1)) (m ((c.tc : Thread nD τ).loc main_arg2)) (m ((c.tc : Thread nD τ).loc main_arg4)) := by
  refine ((fin_main_v61 m c).symm.trans (tail_main_v61 (exitV m c))).trans ((val_main_v61_eq (exitV m c)).trans ?_)
  rw [exit_main_arg2, exit_main_arg4, exit_main_v29_1, exit_main_v29_2, res_s, reg_1, reg_2]
  exact q_row _ _ _ _

/-- The second result. -/
theorem res_c : res_main_v76 m c = cNorm (m ((c.tc : Thread nD τ).loc main_arg0)) (m ((c.tc : Thread nD τ).loc main_arg1)) (m ((c.tc : Thread nD τ).loc main_arg2)) (m ((c.tc : Thread nD τ).loc main_arg3)) := by
  refine ((fin_main_v76 m c).symm.trans (tail_main_v76 (exitV m c))).trans ((val_main_v76_eq (exitV m c)).trans ?_)
  rw [exit_main_arg2, exit_main_arg3, exit_main_v29_1, exit_main_v29_2, res_s, reg_1, reg_2]
  exact c_row _ _ _ _

/-- The third result. -/
theorem res_k : Pipeline.afterTail₀ cfgs (Gen.dats m) 0 (Gen.V0 m) [Gen.hostOps1] c main_v77
    = kPe (m ((c.tc : Thread nD τ).loc main_arg0)) (m ((c.tc : Thread nD τ).loc main_arg1)) (m ((c.tc : Thread nD τ).loc main_arg2)) := by
  refine (tail_main_v77 (exitV m c)).trans ((val_main_v77_eq (exitV m c)).trans ?_)
  rw [exit_main_arg2, exit_main_v29_1, exit_main_v29_2, res_s, reg_1, reg_2]
  exact k_row _ _ _

/-- The run of the reference: each result at its function of the arguments, the arguments unchanged. -/
theorem value_run : θ_run defs (onTc (τ := τ) (main (F := Ideal))) ⟨m, fun _ => 0, ρ⟩ (fun r => ∀ c : Dev nD,
      r.2.mem ((c.tc : Thread nD τ).loc main_v61) = qNorm (m ((c.tc : Thread nD τ).loc main_arg0)) (m ((c.tc : Thread nD τ).loc main_arg1)) (m ((c.tc : Thread nD τ).loc main_arg2)) (m ((c.tc : Thread nD τ).loc main_arg4))
      ∧ r.2.mem ((c.tc : Thread nD τ).loc main_v76) = cNorm (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v77) = kPe (m ((c.tc : Thread nD τ).loc main_arg0)) (m ((c.tc : Thread nD τ).loc main_arg1)) (m ((c.tc : Thread nD τ).loc main_arg2))
      ∧ r.2.mem ((c.tc : Thread nD τ).loc main_v29_0) = codes (m ((c.tc : Thread nD τ).loc main_arg0))
      ∧ r.2.mem ((c.tc : Thread nD τ).loc main_v21) = scales (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => by
    obtain ⟨h0, h1, h2, h3, h4, ha⟩ := h c
    exact ⟨h0.trans (res_q m c), h1.trans (res_c m c), h2.trans ((fin_main_v77 m c).symm.trans (res_k m c)), h3.trans (reg_0 m c),
      h4.trans ((exit_main_v21 m c).symm.trans (res_s m c)), ha⟩) (Value.run m ρ)

end Cert.ReferenceIdeal.Hand
-- ==== Proof.lean ====
/- The claims: the kernel and the two idealized programs run, end quiescent and leave their arguments; the idealization
   rewrote nothing; the idealized kernel and the idealized reference end with equal results. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Run
public import proofs.«01_k».proof.Proof.Gen.ReferenceIdeal.Read
public import proofs.«01_k».proof.Proof.Arrays
public import proofs.«01_k».proof.Proof.KernelData
public import proofs.«01_k».proof.Proof.RefArrays
public import Idealize.ShloMosaic.Adequacy
public import Idealize.ShloMosaic.Init

@[expose] public section

noncomputable section

namespace Cert.Proof

open Idealize.ShloMosaic Idealize.SL.Sem Cert.Spec

/-- The kernel and the reference, from equal arguments, end with the same five results: the functions of the arguments that
    proof/Proof/Spec.lean writes out. -/
theorem algebraic : algebraic_KernelIdeal_ReferenceIdeal := by
  intro m g m' g' _ h
  refine ⟨fun c => qNorm (m (c.tc.loc Cert.KernelIdeal.main_arg0)) (m (c.tc.loc Cert.KernelIdeal.main_arg1)) (m (c.tc.loc Cert.KernelIdeal.main_arg2)) (m (c.tc.loc Cert.KernelIdeal.main_arg4)), fun c => cNorm (m (c.tc.loc Cert.KernelIdeal.main_arg0)) (m (c.tc.loc Cert.KernelIdeal.main_arg1)) (m (c.tc.loc Cert.KernelIdeal.main_arg2)) (m (c.tc.loc Cert.KernelIdeal.main_arg3)),
    fun c => kPe (m (c.tc.loc Cert.KernelIdeal.main_arg0)) (m (c.tc.loc Cert.KernelIdeal.main_arg1)) (m (c.tc.loc Cert.KernelIdeal.main_arg2)), fun c => codes (m (c.tc.loc Cert.KernelIdeal.main_arg0)), fun c => scales (m (c.tc.loc Cert.KernelIdeal.main_arg0)),
    (θ_run _ _ _).mono (fun _ q c => ?_) (θ_run_and (Cert.KernelIdeal.Hand.value_run m g) (Cert.KernelIdeal.Hand.unchanged m g)),
    (θ_run _ _ _).mono (fun _ q c => ?_) (Cert.ReferenceIdeal.Hand.value_run m' g')⟩
  · obtain ⟨h0, h1, h2, h3, h4⟩ := q.1 c
    exact ⟨h0, h1, h2, h3, h4, q.2 c⟩
  · obtain ⟨a0, a1, a2, a3, a4⟩ := h c
    obtain ⟨h0, h1, h2, h3, h4, ha⟩ := q c
    exact ⟨h0.trans (by rw [a0, a1, a2, a4]), h1.trans (by rw [a0, a1, a2, a3]), h2.trans (by rw [a0, a1, a2]), h3.trans (by rw [a0]),
      h4.trans (by rw [a0]), ha⟩

/-- The conjunction of the claims. -/
theorem claim : Cert.Claim := ⟨Cert.Kernel.Gen.facts, Cert.KernelIdeal.Gen.facts, Cert.ReferenceIdeal.Gen.facts,
  fun m ρ _ => Cert.Kernel.Hand.frame m ρ, fun m ρ _ => Cert.KernelIdeal.Hand.frame m ρ,
  fun m ρ _ => Cert.ReferenceIdeal.Gen.frame m ρ, trivial, algebraic⟩

end Cert.Proof

end
